-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S8x512 : Shape := ⟨2, ![8, 512]⟩
abbrev S8 : Shape := ⟨1, ![8]⟩
abbrev S_ : Shape := ⟨0, ![]⟩
abbrev S512 : Shape := ⟨1, ![512]⟩
abbrev S1x512 : Shape := ⟨2, ![1, 512]⟩
abbrev S256x256 : Shape := ⟨2, ![256, 256]⟩
abbrev S256x512 : Shape := ⟨2, ![256, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_122 : BitVec 32 := 0#32
  let c0_i32_120 : BitVec 32 := 0#32
  let c1_i32_121 : BitVec 32 := 1#32
  let v207 : BitVec 32 := Scalar.muli c0_i32_120 c1_i32_121
  let v208 : BitVec 32 := Scalar.addi c0_i32_122 v207
  v208.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_122 : BitVec 32 := 0#32
  let c1_i32_120 : BitVec 32 := 1#32
  let c1_i32_121 : BitVec 32 := 1#32
  let v207 : BitVec 32 := Scalar.muli c1_i32_120 c1_i32_121
  let v208 : BitVec 32 := Scalar.addi c0_i32_122 v207
  v208.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_122 : BitVec 32 := 0#32
  let c2_i32_120 : BitVec 32 := 2#32
  let c1_i32_121 : BitVec 32 := 1#32
  let v207 : BitVec 32 := Scalar.muli c2_i32_120 c1_i32_121
  let v208 : BitVec 32 := Scalar.addi c0_i32_122 v207
  v208.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_122 : BitVec 32 := 0#32
  let c3_i32_120 : BitVec 32 := 3#32
  let c1_i32_121 : BitVec 32 := 1#32
  let v207 : BitVec 32 := Scalar.muli c3_i32_120 c1_i32_121
  let v208 : BitVec 32 := Scalar.addi c0_i32_122 v207
  v208.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_122 : BitVec 32 := 0#32
  let c4_i32_120 : BitVec 32 := 4#32
  let c1_i32_121 : BitVec 32 := 1#32
  let v207 : BitVec 32 := Scalar.muli c4_i32_120 c1_i32_121
  let v208 : BitVec 32 := Scalar.addi c0_i32_122 v207
  v208.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_122 : BitVec 32 := 0#32
  let c5_i32_120 : BitVec 32 := 5#32
  let c1_i32_121 : BitVec 32 := 1#32
  let v207 : BitVec 32 := Scalar.muli c5_i32_120 c1_i32_121
  let v208 : BitVec 32 := Scalar.addi c0_i32_122 v207
  v208.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_122 : BitVec 32 := 0#32
  let c6_i32_120 : BitVec 32 := 6#32
  let c1_i32_121 : BitVec 32 := 1#32
  let v207 : BitVec 32 := Scalar.muli c6_i32_120 c1_i32_121
  let v208 : BitVec 32 := Scalar.addi c0_i32_122 v207
  v208.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_122 : BitVec 32 := 0#32
  let c7_i32_120 : BitVec 32 := 7#32
  let c1_i32_121 : BitVec 32 := 1#32
  let v207 : BitVec 32 := Scalar.muli c7_i32_120 c1_i32_121
  let v208 : BitVec 32 := Scalar.addi c0_i32_122 v207
  v208.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_39 : BitVec 32 := 0#32
  let v82 : BitVec 1 := Scalar.cmpi .eq v2 c0_i32_39
  let v83 : BitVec 32 := Scalar.extui v82
  let c0_i32_40 : BitVec 32 := 0#32
  let v84 : BitVec 1 := Scalar.cmpi .ne v83 c0_i32_40
  v84

def k0_dev9 : Nat :=
  let c0_i32_123 : BitVec 32 := 0#32
  let c1_i32_121 : BitVec 32 := 1#32
  let c1_i32_122 : BitVec 32 := 1#32
  let v207 : BitVec 32 := Scalar.muli c1_i32_121 c1_i32_122
  let v208 : BitVec 32 := Scalar.addi c0_i32_123 v207
  v208.toNat
def k0_dev10 : Nat :=
  let c0_i32_132 : BitVec 32 := 0#32
  let c2_i32_130 : BitVec 32 := 2#32
  let c1_i32_131 : BitVec 32 := 1#32
  let v215 : BitVec 32 := Scalar.muli c2_i32_130 c1_i32_131
  let v216 : BitVec 32 := Scalar.addi c0_i32_132 v215
  v216.toNat
def k0_dev11 : Nat :=
  let c0_i32_141 : BitVec 32 := 0#32
  let c3_i32_139 : BitVec 32 := 3#32
  let c1_i32_140 : BitVec 32 := 1#32
  let v223 : BitVec 32 := Scalar.muli c3_i32_139 c1_i32_140
  let v224 : BitVec 32 := Scalar.addi c0_i32_141 v223
  v224.toNat
def k0_dev12 : Nat :=
  let c0_i32_150 : BitVec 32 := 0#32
  let c4_i32_148 : BitVec 32 := 4#32
  let c1_i32_149 : BitVec 32 := 1#32
  let v231 : BitVec 32 := Scalar.muli c4_i32_148 c1_i32_149
  let v232 : BitVec 32 := Scalar.addi c0_i32_150 v231
  v232.toNat
def k0_dev13 : Nat :=
  let c0_i32_159 : BitVec 32 := 0#32
  let c5_i32_157 : BitVec 32 := 5#32
  let c1_i32_158 : BitVec 32 := 1#32
  let v239 : BitVec 32 := Scalar.muli c5_i32_157 c1_i32_158
  let v240 : BitVec 32 := Scalar.addi c0_i32_159 v239
  v240.toNat
def k0_dev14 : Nat :=
  let c0_i32_168 : BitVec 32 := 0#32
  let c6_i32_166 : BitVec 32 := 6#32
  let c1_i32_167 : BitVec 32 := 1#32
  let v247 : BitVec 32 := Scalar.muli c6_i32_166 c1_i32_167
  let v248 : BitVec 32 := Scalar.addi c0_i32_168 v247
  v248.toNat
def k0_dev15 : Nat :=
  let c0_i32_177 : BitVec 32 := 0#32
  let c7_i32_175 : BitVec 32 := 7#32
  let c1_i32_176 : BitVec 32 := 1#32
  let v255 : BitVec 32 := Scalar.muli c7_i32_175 c1_i32_176
  let v256 : BitVec 32 := Scalar.addi c0_i32_177 v255
  v256.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v85 : BitVec 1 := Scalar.cmpi .eq v2 c1_i32_41
  let v86 : BitVec 32 := Scalar.extui v85
  let c0_i32_42 : BitVec 32 := 0#32
  let v87 : BitVec 1 := Scalar.cmpi .ne v86 c0_i32_42
  v87

def k0_dev16 : Nat :=
  let c0_i32_123 : BitVec 32 := 0#32
  let c2_i32_121 : BitVec 32 := 2#32
  let c1_i32_122 : BitVec 32 := 1#32
  let v207 : BitVec 32 := Scalar.muli c2_i32_121 c1_i32_122
  let v208 : BitVec 32 := Scalar.addi c0_i32_123 v207
  v208.toNat
def k0_dev17 : Nat :=
  let c0_i32_132 : BitVec 32 := 0#32
  let c3_i32_130 : BitVec 32 := 3#32
  let c1_i32_131 : BitVec 32 := 1#32
  let v215 : BitVec 32 := Scalar.muli c3_i32_130 c1_i32_131
  let v216 : BitVec 32 := Scalar.addi c0_i32_132 v215
  v216.toNat
def k0_dev18 : Nat :=
  let c0_i32_141 : BitVec 32 := 0#32
  let c4_i32_139 : BitVec 32 := 4#32
  let c1_i32_140 : BitVec 32 := 1#32
  let v223 : BitVec 32 := Scalar.muli c4_i32_139 c1_i32_140
  let v224 : BitVec 32 := Scalar.addi c0_i32_141 v223
  v224.toNat
def k0_dev19 : Nat :=
  let c0_i32_150 : BitVec 32 := 0#32
  let c5_i32_148 : BitVec 32 := 5#32
  let c1_i32_149 : BitVec 32 := 1#32
  let v231 : BitVec 32 := Scalar.muli c5_i32_148 c1_i32_149
  let v232 : BitVec 32 := Scalar.addi c0_i32_150 v231
  v232.toNat
def k0_dev20 : Nat :=
  let c0_i32_159 : BitVec 32 := 0#32
  let c6_i32_157 : BitVec 32 := 6#32
  let c1_i32_158 : BitVec 32 := 1#32
  let v239 : BitVec 32 := Scalar.muli c6_i32_157 c1_i32_158
  let v240 : BitVec 32 := Scalar.addi c0_i32_159 v239
  v240.toNat
def k0_dev21 : Nat :=
  let c0_i32_168 : BitVec 32 := 0#32
  let c7_i32_166 : BitVec 32 := 7#32
  let c1_i32_167 : BitVec 32 := 1#32
  let v247 : BitVec 32 := Scalar.muli c7_i32_166 c1_i32_167
  let v248 : BitVec 32 := Scalar.addi c0_i32_168 v247
  v248.toNat
def k0_dev22 : Nat :=
  let c0_i32_177 : BitVec 32 := 0#32
  let c0_i32_175 : BitVec 32 := 0#32
  let c1_i32_176 : BitVec 32 := 1#32
  let v255 : BitVec 32 := Scalar.muli c0_i32_175 c1_i32_176
  let v256 : BitVec 32 := Scalar.addi c0_i32_177 v255
  v256.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_43 : BitVec 32 := 2#32
  let v88 : BitVec 1 := Scalar.cmpi .eq v2 c2_i32_43
  let v89 : BitVec 32 := Scalar.extui v88
  let c0_i32_44 : BitVec 32 := 0#32
  let v90 : BitVec 1 := Scalar.cmpi .ne v89 c0_i32_44
  v90

def k0_dev23 : Nat :=
  let c0_i32_123 : BitVec 32 := 0#32
  let c3_i32_121 : BitVec 32 := 3#32
  let c1_i32_122 : BitVec 32 := 1#32
  let v207 : BitVec 32 := Scalar.muli c3_i32_121 c1_i32_122
  let v208 : BitVec 32 := Scalar.addi c0_i32_123 v207
  v208.toNat
def k0_dev24 : Nat :=
  let c0_i32_132 : BitVec 32 := 0#32
  let c4_i32_130 : BitVec 32 := 4#32
  let c1_i32_131 : BitVec 32 := 1#32
  let v215 : BitVec 32 := Scalar.muli c4_i32_130 c1_i32_131
  let v216 : BitVec 32 := Scalar.addi c0_i32_132 v215
  v216.toNat
def k0_dev25 : Nat :=
  let c0_i32_141 : BitVec 32 := 0#32
  let c5_i32_139 : BitVec 32 := 5#32
  let c1_i32_140 : BitVec 32 := 1#32
  let v223 : BitVec 32 := Scalar.muli c5_i32_139 c1_i32_140
  let v224 : BitVec 32 := Scalar.addi c0_i32_141 v223
  v224.toNat
def k0_dev26 : Nat :=
  let c0_i32_150 : BitVec 32 := 0#32
  let c6_i32_148 : BitVec 32 := 6#32
  let c1_i32_149 : BitVec 32 := 1#32
  let v231 : BitVec 32 := Scalar.muli c6_i32_148 c1_i32_149
  let v232 : BitVec 32 := Scalar.addi c0_i32_150 v231
  v232.toNat
def k0_dev27 : Nat :=
  let c0_i32_159 : BitVec 32 := 0#32
  let c7_i32_157 : BitVec 32 := 7#32
  let c1_i32_158 : BitVec 32 := 1#32
  let v239 : BitVec 32 := Scalar.muli c7_i32_157 c1_i32_158
  let v240 : BitVec 32 := Scalar.addi c0_i32_159 v239
  v240.toNat
def k0_dev28 : Nat :=
  let c0_i32_168 : BitVec 32 := 0#32
  let c0_i32_166 : BitVec 32 := 0#32
  let c1_i32_167 : BitVec 32 := 1#32
  let v247 : BitVec 32 := Scalar.muli c0_i32_166 c1_i32_167
  let v248 : BitVec 32 := Scalar.addi c0_i32_168 v247
  v248.toNat
def k0_dev29 : Nat :=
  let c0_i32_177 : BitVec 32 := 0#32
  let c1_i32_175 : BitVec 32 := 1#32
  let c1_i32_176 : BitVec 32 := 1#32
  let v255 : BitVec 32 := Scalar.muli c1_i32_175 c1_i32_176
  let v256 : BitVec 32 := Scalar.addi c0_i32_177 v255
  v256.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v91 : BitVec 1 := Scalar.cmpi .eq v2 c3_i32_45
  let v92 : BitVec 32 := Scalar.extui v91
  let c0_i32_46 : BitVec 32 := 0#32
  let v93 : BitVec 1 := Scalar.cmpi .ne v92 c0_i32_46
  v93

def k0_dev30 : Nat :=
  let c0_i32_123 : BitVec 32 := 0#32
  let c4_i32_121 : BitVec 32 := 4#32
  let c1_i32_122 : BitVec 32 := 1#32
  let v207 : BitVec 32 := Scalar.muli c4_i32_121 c1_i32_122
  let v208 : BitVec 32 := Scalar.addi c0_i32_123 v207
  v208.toNat
def k0_dev31 : Nat :=
  let c0_i32_132 : BitVec 32 := 0#32
  let c5_i32_130 : BitVec 32 := 5#32
  let c1_i32_131 : BitVec 32 := 1#32
  let v215 : BitVec 32 := Scalar.muli c5_i32_130 c1_i32_131
  let v216 : BitVec 32 := Scalar.addi c0_i32_132 v215
  v216.toNat
def k0_dev32 : Nat :=
  let c0_i32_141 : BitVec 32 := 0#32
  let c6_i32_139 : BitVec 32 := 6#32
  let c1_i32_140 : BitVec 32 := 1#32
  let v223 : BitVec 32 := Scalar.muli c6_i32_139 c1_i32_140
  let v224 : BitVec 32 := Scalar.addi c0_i32_141 v223
  v224.toNat
def k0_dev33 : Nat :=
  let c0_i32_150 : BitVec 32 := 0#32
  let c7_i32_148 : BitVec 32 := 7#32
  let c1_i32_149 : BitVec 32 := 1#32
  let v231 : BitVec 32 := Scalar.muli c7_i32_148 c1_i32_149
  let v232 : BitVec 32 := Scalar.addi c0_i32_150 v231
  v232.toNat
def k0_dev34 : Nat :=
  let c0_i32_159 : BitVec 32 := 0#32
  let c0_i32_157 : BitVec 32 := 0#32
  let c1_i32_158 : BitVec 32 := 1#32
  let v239 : BitVec 32 := Scalar.muli c0_i32_157 c1_i32_158
  let v240 : BitVec 32 := Scalar.addi c0_i32_159 v239
  v240.toNat
def k0_dev35 : Nat :=
  let c0_i32_168 : BitVec 32 := 0#32
  let c1_i32_166 : BitVec 32 := 1#32
  let c1_i32_167 : BitVec 32 := 1#32
  let v247 : BitVec 32 := Scalar.muli c1_i32_166 c1_i32_167
  let v248 : BitVec 32 := Scalar.addi c0_i32_168 v247
  v248.toNat
def k0_dev36 : Nat :=
  let c0_i32_177 : BitVec 32 := 0#32
  let c2_i32_175 : BitVec 32 := 2#32
  let c1_i32_176 : BitVec 32 := 1#32
  let v255 : BitVec 32 := Scalar.muli c2_i32_175 c1_i32_176
  let v256 : BitVec 32 := Scalar.addi c0_i32_177 v255
  v256.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v94 : BitVec 1 := Scalar.cmpi .eq v2 c4_i32_47
  let v95 : BitVec 32 := Scalar.extui v94
  let c0_i32_48 : BitVec 32 := 0#32
  let v96 : BitVec 1 := Scalar.cmpi .ne v95 c0_i32_48
  v96

def k0_dev37 : Nat :=
  let c0_i32_123 : BitVec 32 := 0#32
  let c5_i32_121 : BitVec 32 := 5#32
  let c1_i32_122 : BitVec 32 := 1#32
  let v207 : BitVec 32 := Scalar.muli c5_i32_121 c1_i32_122
  let v208 : BitVec 32 := Scalar.addi c0_i32_123 v207
  v208.toNat
def k0_dev38 : Nat :=
  let c0_i32_132 : BitVec 32 := 0#32
  let c6_i32_130 : BitVec 32 := 6#32
  let c1_i32_131 : BitVec 32 := 1#32
  let v215 : BitVec 32 := Scalar.muli c6_i32_130 c1_i32_131
  let v216 : BitVec 32 := Scalar.addi c0_i32_132 v215
  v216.toNat
def k0_dev39 : Nat :=
  let c0_i32_141 : BitVec 32 := 0#32
  let c7_i32_139 : BitVec 32 := 7#32
  let c1_i32_140 : BitVec 32 := 1#32
  let v223 : BitVec 32 := Scalar.muli c7_i32_139 c1_i32_140
  let v224 : BitVec 32 := Scalar.addi c0_i32_141 v223
  v224.toNat
def k0_dev40 : Nat :=
  let c0_i32_150 : BitVec 32 := 0#32
  let c0_i32_148 : BitVec 32 := 0#32
  let c1_i32_149 : BitVec 32 := 1#32
  let v231 : BitVec 32 := Scalar.muli c0_i32_148 c1_i32_149
  let v232 : BitVec 32 := Scalar.addi c0_i32_150 v231
  v232.toNat
def k0_dev41 : Nat :=
  let c0_i32_159 : BitVec 32 := 0#32
  let c1_i32_157 : BitVec 32 := 1#32
  let c1_i32_158 : BitVec 32 := 1#32
  let v239 : BitVec 32 := Scalar.muli c1_i32_157 c1_i32_158
  let v240 : BitVec 32 := Scalar.addi c0_i32_159 v239
  v240.toNat
def k0_dev42 : Nat :=
  let c0_i32_168 : BitVec 32 := 0#32
  let c2_i32_166 : BitVec 32 := 2#32
  let c1_i32_167 : BitVec 32 := 1#32
  let v247 : BitVec 32 := Scalar.muli c2_i32_166 c1_i32_167
  let v248 : BitVec 32 := Scalar.addi c0_i32_168 v247
  v248.toNat
def k0_dev43 : Nat :=
  let c0_i32_177 : BitVec 32 := 0#32
  let c3_i32_175 : BitVec 32 := 3#32
  let c1_i32_176 : BitVec 32 := 1#32
  let v255 : BitVec 32 := Scalar.muli c3_i32_175 c1_i32_176
  let v256 : BitVec 32 := Scalar.addi c0_i32_177 v255
  v256.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v97 : BitVec 1 := Scalar.cmpi .eq v2 c5_i32_49
  let v98 : BitVec 32 := Scalar.extui v97
  let c0_i32_50 : BitVec 32 := 0#32
  let v99 : BitVec 1 := Scalar.cmpi .ne v98 c0_i32_50
  v99

def k0_dev44 : Nat :=
  let c0_i32_123 : BitVec 32 := 0#32
  let c6_i32_121 : BitVec 32 := 6#32
  let c1_i32_122 : BitVec 32 := 1#32
  let v207 : BitVec 32 := Scalar.muli c6_i32_121 c1_i32_122
  let v208 : BitVec 32 := Scalar.addi c0_i32_123 v207
  v208.toNat
def k0_dev45 : Nat :=
  let c0_i32_132 : BitVec 32 := 0#32
  let c7_i32_130 : BitVec 32 := 7#32
  let c1_i32_131 : BitVec 32 := 1#32
  let v215 : BitVec 32 := Scalar.muli c7_i32_130 c1_i32_131
  let v216 : BitVec 32 := Scalar.addi c0_i32_132 v215
  v216.toNat
def k0_dev46 : Nat :=
  let c0_i32_141 : BitVec 32 := 0#32
  let c0_i32_139 : BitVec 32 := 0#32
  let c1_i32_140 : BitVec 32 := 1#32
  let v223 : BitVec 32 := Scalar.muli c0_i32_139 c1_i32_140
  let v224 : BitVec 32 := Scalar.addi c0_i32_141 v223
  v224.toNat
def k0_dev47 : Nat :=
  let c0_i32_150 : BitVec 32 := 0#32
  let c1_i32_148 : BitVec 32 := 1#32
  let c1_i32_149 : BitVec 32 := 1#32
  let v231 : BitVec 32 := Scalar.muli c1_i32_148 c1_i32_149
  let v232 : BitVec 32 := Scalar.addi c0_i32_150 v231
  v232.toNat
def k0_dev48 : Nat :=
  let c0_i32_159 : BitVec 32 := 0#32
  let c2_i32_157 : BitVec 32 := 2#32
  let c1_i32_158 : BitVec 32 := 1#32
  let v239 : BitVec 32 := Scalar.muli c2_i32_157 c1_i32_158
  let v240 : BitVec 32 := Scalar.addi c0_i32_159 v239
  v240.toNat
def k0_dev49 : Nat :=
  let c0_i32_168 : BitVec 32 := 0#32
  let c3_i32_166 : BitVec 32 := 3#32
  let c1_i32_167 : BitVec 32 := 1#32
  let v247 : BitVec 32 := Scalar.muli c3_i32_166 c1_i32_167
  let v248 : BitVec 32 := Scalar.addi c0_i32_168 v247
  v248.toNat
def k0_dev50 : Nat :=
  let c0_i32_177 : BitVec 32 := 0#32
  let c4_i32_175 : BitVec 32 := 4#32
  let c1_i32_176 : BitVec 32 := 1#32
  let v255 : BitVec 32 := Scalar.muli c4_i32_175 c1_i32_176
  let v256 : BitVec 32 := Scalar.addi c0_i32_177 v255
  v256.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_51 : BitVec 32 := 6#32
  let v100 : BitVec 1 := Scalar.cmpi .eq v2 c6_i32_51
  let v101 : BitVec 32 := Scalar.extui v100
  let c0_i32_52 : BitVec 32 := 0#32
  let v102 : BitVec 1 := Scalar.cmpi .ne v101 c0_i32_52
  v102

def k0_dev51 : Nat :=
  let c0_i32_123 : BitVec 32 := 0#32
  let c7_i32_121 : BitVec 32 := 7#32
  let c1_i32_122 : BitVec 32 := 1#32
  let v207 : BitVec 32 := Scalar.muli c7_i32_121 c1_i32_122
  let v208 : BitVec 32 := Scalar.addi c0_i32_123 v207
  v208.toNat
def k0_dev52 : Nat :=
  let c0_i32_132 : BitVec 32 := 0#32
  let c0_i32_130 : BitVec 32 := 0#32
  let c1_i32_131 : BitVec 32 := 1#32
  let v215 : BitVec 32 := Scalar.muli c0_i32_130 c1_i32_131
  let v216 : BitVec 32 := Scalar.addi c0_i32_132 v215
  v216.toNat
def k0_dev53 : Nat :=
  let c0_i32_141 : BitVec 32 := 0#32
  let c1_i32_139 : BitVec 32 := 1#32
  let c1_i32_140 : BitVec 32 := 1#32
  let v223 : BitVec 32 := Scalar.muli c1_i32_139 c1_i32_140
  let v224 : BitVec 32 := Scalar.addi c0_i32_141 v223
  v224.toNat
def k0_dev54 : Nat :=
  let c0_i32_150 : BitVec 32 := 0#32
  let c2_i32_148 : BitVec 32 := 2#32
  let c1_i32_149 : BitVec 32 := 1#32
  let v231 : BitVec 32 := Scalar.muli c2_i32_148 c1_i32_149
  let v232 : BitVec 32 := Scalar.addi c0_i32_150 v231
  v232.toNat
def k0_dev55 : Nat :=
  let c0_i32_159 : BitVec 32 := 0#32
  let c3_i32_157 : BitVec 32 := 3#32
  let c1_i32_158 : BitVec 32 := 1#32
  let v239 : BitVec 32 := Scalar.muli c3_i32_157 c1_i32_158
  let v240 : BitVec 32 := Scalar.addi c0_i32_159 v239
  v240.toNat
def k0_dev56 : Nat :=
  let c0_i32_168 : BitVec 32 := 0#32
  let c4_i32_166 : BitVec 32 := 4#32
  let c1_i32_167 : BitVec 32 := 1#32
  let v247 : BitVec 32 := Scalar.muli c4_i32_166 c1_i32_167
  let v248 : BitVec 32 := Scalar.addi c0_i32_168 v247
  v248.toNat
def k0_dev57 : Nat :=
  let c0_i32_177 : BitVec 32 := 0#32
  let c5_i32_175 : BitVec 32 := 5#32
  let c1_i32_176 : BitVec 32 := 1#32
  let v255 : BitVec 32 := Scalar.muli c5_i32_175 c1_i32_176
  let v256 : BitVec 32 := Scalar.addi c0_i32_177 v255
  v256.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_53 : BitVec 32 := 7#32
  let v103 : BitVec 1 := Scalar.cmpi .eq v2 c7_i32_53
  let v104 : BitVec 32 := Scalar.extui v103
  let c0_i32_54 : BitVec 32 := 0#32
  let v105 : BitVec 1 := Scalar.cmpi .ne v104 c0_i32_54
  v105

def k0_dev58 : Nat :=
  let c0_i32_123 : BitVec 32 := 0#32
  let c0_i32_121 : BitVec 32 := 0#32
  let c1_i32_122 : BitVec 32 := 1#32
  let v207 : BitVec 32 := Scalar.muli c0_i32_121 c1_i32_122
  let v208 : BitVec 32 := Scalar.addi c0_i32_123 v207
  v208.toNat
def k0_dev59 : Nat :=
  let c0_i32_132 : BitVec 32 := 0#32
  let c1_i32_130 : BitVec 32 := 1#32
  let c1_i32_131 : BitVec 32 := 1#32
  let v215 : BitVec 32 := Scalar.muli c1_i32_130 c1_i32_131
  let v216 : BitVec 32 := Scalar.addi c0_i32_132 v215
  v216.toNat
def k0_dev60 : Nat :=
  let c0_i32_141 : BitVec 32 := 0#32
  let c2_i32_139 : BitVec 32 := 2#32
  let c1_i32_140 : BitVec 32 := 1#32
  let v223 : BitVec 32 := Scalar.muli c2_i32_139 c1_i32_140
  let v224 : BitVec 32 := Scalar.addi c0_i32_141 v223
  v224.toNat
def k0_dev61 : Nat :=
  let c0_i32_150 : BitVec 32 := 0#32
  let c3_i32_148 : BitVec 32 := 3#32
  let c1_i32_149 : BitVec 32 := 1#32
  let v231 : BitVec 32 := Scalar.muli c3_i32_148 c1_i32_149
  let v232 : BitVec 32 := Scalar.addi c0_i32_150 v231
  v232.toNat
def k0_dev62 : Nat :=
  let c0_i32_159 : BitVec 32 := 0#32
  let c4_i32_157 : BitVec 32 := 4#32
  let c1_i32_158 : BitVec 32 := 1#32
  let v239 : BitVec 32 := Scalar.muli c4_i32_157 c1_i32_158
  let v240 : BitVec 32 := Scalar.addi c0_i32_159 v239
  v240.toNat
def k0_dev63 : Nat :=
  let c0_i32_168 : BitVec 32 := 0#32
  let c5_i32_166 : BitVec 32 := 5#32
  let c1_i32_167 : BitVec 32 := 1#32
  let v247 : BitVec 32 := Scalar.muli c5_i32_166 c1_i32_167
  let v248 : BitVec 32 := Scalar.addi c0_i32_168 v247
  v248.toNat
def k0_dev64 : Nat :=
  let c0_i32_177 : BitVec 32 := 0#32
  let c6_i32_175 : BitVec 32 := 6#32
  let c1_i32_176 : BitVec 32 := 1#32
  let v255 : BitVec 32 := Scalar.muli c6_i32_175 c1_i32_176
  let v256 : BitVec 32 := Scalar.addi c0_i32_177 v255
  v256.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S_, .f32⟩
  | .hbm, ⟨3, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Ideal.Steps.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Scan

open Cert.KernelIdeal Cert.KernelIdeal.Gen
open Idealize.ShloMosaic
open Idealize.ShloMosaic.TcCoe
open Idealize.SL.Sem

variable {F : FTy → Type} [FloatOps F]

/-! ## Names for the operands -/

/-- The three buffers the body works on: the block of `x`, the block of the result, the totals. -/
abbrev xM : Memref sig .tc .vmem S1024x512 .f32 := Memref.whole cc0_stg0_0
abbrev oM : Memref sig .tc .vmem S1024x512 .f32 := Memref.whole cc0_stg1_0
abbrev tM : Memref sig .tc .vmem S8x512 .f32 := Memref.whole cc0_scratch0

theorem rowIn : ∀ n : Fin 8, ∀ i, (![n.val, 0] : Fin 2 → Nat) i + S1x512.size i ≤ S8x512.size i := by
  decide

theorem cellIn : ∀ n : Fin 8, ∀ i, (![n.val] : Fin 1 → Nat) i + S1.size i ≤ S8.size i := by
  decide

/-- Row `n` of the totals, as a rectangle and as a view. -/
abbrev rowR (n : Fin 8) : Rect S8x512 := Rect.unit (s := S8x512) ![n.val, 0] S1x512.size (rowIn n)
abbrev rowM (n : Fin 8) : Memref sig .tc .vmem S1x512 .f32 := tM.slice (rowR n) (fun _ => rfl)

/-- The semaphore device `k`'s copy of this device's total completes on here, the one the total of device `j`
    arrives on, and the barrier's. -/
abbrev sendS (k : Fin 8) : DmaSem sig :=
  ((cc0_scratch1.slice (Rect.unit (s := S8) ![k.val] S1.size (cellIn k)) : DmaSems sig S1).squeeze S_ squeezes_S1_S_ : DmaSems sig S_).sem
abbrev recvS (j : Fin 8) : DmaSem sig :=
  ((cc0_scratch2.slice (Rect.unit (s := S8) ![j.val] S1.size (cellIn j)) : DmaSems sig S1).squeeze S_ squeezes_S1_S_ : DmaSems sig S_).sem
abbrev barS : Sem sig := (SemArray.scalar (sig.barrier 0 rfl) : Sems sig S_).sem

/-- The place of device `c` in the mesh, as the kernel computes it. -/
abbrev place (c : Dev nD) : BitVec 32 := Scalar.remsi (Scalar.divsi (Dev.word c) 1#32) 8#32

/-! ## The steps, each with the rest of the program as its last argument -/

variable {α : Type}

/-- Signal device `n`'s barrier if `b`. -/
def sigStep (b : BitVec 1) (n : Dev nD) (k : PUnit.{1} → Prog (TpuEff nD τ sig (Elt F) Λ₀ .tc) α) : Prog (TpuEff nD τ sig (Elt F) Λ₀ .tc) α :=
  dite (b = 1#1) (fun _ => .op (.semSignal (Dev.tc n) barS 1) k) (fun _ => k ⟨⟩)

/-- Store `w` as row `n` of the totals if `b` (after a load of the row whose value is dropped). -/
def rowStep (b : BitVec 1) (n : Fin 8) (w : FVec F S1x512 .f32) (k : PUnit.{1} → Prog (TpuEff nD τ sig (Elt F) Λ₀ .tc) α) : Prog (TpuEff nD τ sig (Elt F) Λ₀ .tc) α :=
  dite (b = 1#1)
    (fun _ => .op (.load tM (rowR n).toLoadRect (View.loadsAt_vmem h_S1x512)) fun _ =>
      .op (.store tM (rowR n) w Finset.univ (View.stores_vmem_bits_univ h_S1x512 rfl) (.inl rfl)) k)
    (fun _ => k ⟨⟩)

/-- Copy row `n` of the totals to each device of a list in turn, row `n` there. -/
def sendOps (n : Fin 8) : List (Fin 8) → (PUnit.{1} → Prog (TpuEff nD τ sig (Elt F) Λ₀ .tc) α) → Prog (TpuEff nD τ sig (Elt F) Λ₀ .tc) α
  | [], k => k ⟨⟩
  | t :: l, k =>
    .op (.enqueueDma (rowM n) (.remote (Dev.tc (t : Dev nD)) (rowM n) (.dma (sendS t))) (.dma (recvS n))
      (View.wordExact_bits rfl) (View.wordExact_bits rfl) ⟨⟨rfl, Or.inl rfl⟩, trivial⟩) fun _ => sendOps n l k

/-- The devices device `n` sends to, in its order: those after it, wrapping around. -/
abbrev targets (n : Fin 8) : List (Fin 8) := [n + 1, n + 2, n + 3, n + 4, n + 5, n + 6, n + 7]

/-- Those copies if `b`. -/
def sendStep (b : BitVec 1) (n : Fin 8) (k : PUnit.{1} → Prog (TpuEff nD τ sig (Elt F) Λ₀ .tc) α) : Prog (TpuEff nD τ sig (Elt F) Λ₀ .tc) α :=
  dite (b = 1#1) (fun _ => sendOps n (targets n) k) (fun _ => k ⟨⟩)

/-- Wait on a semaphore for one row's worth if `b` (the row named only gives the amount). -/
def waitStep (b : BitVec 1) (s : DmaSem sig) (n : Fin 8) (k : PUnit.{1} → Prog (TpuEff nD τ sig (Elt F) Λ₀ .tc) α) : Prog (TpuEff nD τ sig (Elt F) Λ₀ .tc) α :=
  dite (b = 1#1)
    (fun _ => .op (.waitDma2 s (rowM n) (rowM n) (View.wordExact_bits rfl) (View.wordExact_bits rfl)) k)
    (fun _ => k ⟨⟩)

set_option maxRecDepth 65536 in
theorem part17_steps :
    k0_part17 (F := F) xM (Memref.isWhole_whole _) oM (Memref.isWhole_whole _) tM (Memref.isWhole_whole _) cc0_scratch1 cc0_scratch2
      = .op .deviceId fun d =>
        sigStep (k0_cond1 d) 0 fun _ => sigStep (k0_cond2 d) 1 fun _ => sigStep (k0_cond3 d) 2 fun _ =>
        sigStep (k0_cond4 d) 3 fun _ => sigStep (k0_cond5 d) 4 fun _ => sigStep (k0_cond6 d) 5 fun _ =>
        sigStep (k0_cond7 d) 6 fun _ => sigStep (k0_cond8 d) 7 fun _ =>
        .op (.load xM (Rect.unit (s := S1024x512) ![0, 0] S1024x512.size inb_S1024x512_S1024x512_0_0).toLoadRect (View.loadsAt_vmem h_S1024x512)) fun v =>
        .ret ⟨d, place d, SemArray.scalar (sig.barrier 0 rfl), k0_pay1 v⟩ := rfl

/-- Whether device `c`'s place is `n`, as the kernel tests it. -/
abbrev isEq (v : BitVec 32) (n : BitVec 32) : BitVec 1 := Scalar.cmpi .ne (Scalar.extui (Scalar.cmpi .eq v n) : BitVec 32) 0#32
abbrev isNe (v : BitVec 32) (n : BitVec 32) : BitVec 1 := Scalar.cmpi .ne (Scalar.extui (Scalar.cmpi .ne v n) : BitVec 32) 0#32
abbrev isGt (v : BitVec 32) (n : BitVec 32) : BitVec 1 := Scalar.cmpi .ne (Scalar.extui (Scalar.cmpi .sgt v n) : BitVec 32) 0#32
abbrev isLt (v : BitVec 32) (n : BitVec 32) : BitVec 1 := Scalar.cmpi .ne (Scalar.extui (Scalar.cmpi .slt v n) : BitVec 32) 0#32

set_option maxRecDepth 65536 in
theorem part18_steps (v2 : BitVec 32) (v29 : FVec F S1024x512 .f32) :
    k0_part18 (F := F) xM (Memref.isWhole_whole _) oM (Memref.isWhole_whole _) tM (Memref.isWhole_whole _) cc0_scratch1 cc0_scratch2 v2 v29
      = (rowStep (isEq v2 0#32) 0 (k0_pay3 v29) fun _ => rowStep (isEq v2 1#32) 1 (k0_pay3 v29) fun _ =>
        rowStep (isEq v2 2#32) 2 (k0_pay3 v29) fun _ => rowStep (isEq v2 3#32) 3 (k0_pay3 v29) fun _ =>
        rowStep (isEq v2 4#32) 4 (k0_pay3 v29) fun _ => rowStep (isEq v2 5#32) 5 (k0_pay3 v29) fun _ =>
        rowStep (isEq v2 6#32) 6 (k0_pay3 v29) fun _ => rowStep (isEq v2 7#32) 7 (k0_pay3 v29) fun _ =>
        .ret ⟨k0_pay11 (F := F), Scalar.ofBits .f32 0x00000000#32⟩) := rfl

/-- The kernel's loads and stores of 256 rows of the block, from row `o`. -/
abbrev blkR (o : Nat) (h : ∀ i, (![o, 0] : Fin 2 → Nat) i + S256x512.size i ≤ S1024x512.size i) : Rect S1024x512 :=
  Rect.unit (s := S1024x512) ![o, 0] S256x512.size h

/-- One block of the scan: load it from `x`, then load and overwrite its place in the result. -/
def blkStep (o : Nat) (h : ∀ i, (![o, 0] : Fin 2 → Nat) i + S256x512.size i ≤ S1024x512.size i)
    (w : Vec F S256x512 .f32 → FVec F S256x512 .f32) (k : Vec F S256x512 .f32 → Prog (TpuEff nD τ sig (Elt F) Λ₀ .tc) α) : Prog (TpuEff nD τ sig (Elt F) Λ₀ .tc) α :=
  .op (.load xM (blkR o h).toLoadRect (View.loadsAt_vmem h_S256x512)) fun v =>
  .op (.load oM (blkR o h).toLoadRect (View.loadsAt_vmem h_S256x512)) fun _ =>
  .op (.store oM (blkR o h) (w v) Finset.univ (View.stores_vmem_bits_univ h_S256x512 rfl) (.inl rfl)) fun _ => k v

set_option maxRecDepth 65536 in
theorem part19_steps (d : Dev nD) (v2 : BitVec 32) (v62 : FVec F S256x256 .bf16) (z : F .f32) :
    k0_part19 (F := F) xM (Memref.isWhole_whole _) oM (Memref.isWhole_whole _) tM (Memref.isWhole_whole _) cc0_scratch1 cc0_scratch2
        d v2 (SemArray.scalar (sig.barrier 0 rfl)) v62 z
      = (blkStep 0 inb_S1024x512_S256x512_0_0 (fun v => k0_pay14 v62 z v) fun v64 =>
        blkStep 256 inb_S1024x512_S256x512_256_0 (fun v => k0_pay17 v62 z v64 v) fun v73 =>
        .op (.semWait barS 7) fun _ =>
        sendStep (k0_cond17 d) 0 fun _ => sendStep (k0_cond18 d) 1 fun _ => sendStep (k0_cond19 d) 2 fun _ =>
        sendStep (k0_cond20 d) 3 fun _ => .ret ⟨k0_pay18 v62 z v64 v73, Scalar.cmpi .eq v2 4#32⟩) := rfl

set_option maxRecDepth 65536 in
theorem part20_steps (d : Dev nD) (v2 : BitVec 32) (v62 : FVec F S256x256 .bf16) (v81 : FVec F S1x512 .f32) (v94 : BitVec 1) :
    k0_part20 (F := F) xM (Memref.isWhole_whole _) oM (Memref.isWhole_whole _) tM (Memref.isWhole_whole _) cc0_scratch1 cc0_scratch2
        d v2 v62 v81 v94
      = (sendStep (k0_cond21 d) 4 fun _ => sendStep (k0_cond22 d) 5 fun _ => sendStep (k0_cond23 d) 6 fun _ =>
        sendStep (k0_cond24 d) 7 fun _ =>
        blkStep 512 inb_S1024x512_S256x512_512_0 (fun v => k0_pay20 v62 v81 v) fun v106 =>
        blkStep 768 inb_S1024x512_S256x512_768_0 (fun v => k0_pay21 v62 v81 v106 v) fun _ =>
        waitStep (isGt v2 0#32) (recvS 0) 0 fun _ =>
        .ret ⟨Scalar.extui (Scalar.cmpi .sgt v2 1#32), 0#32⟩) := rfl

/-- The end of the result: load the totals and the result, add the totals of the devices before. -/
def addStep (v2 : BitVec 32) (k : PUnit.{1} → Prog (TpuEff nD τ sig (Elt F) Λ₀ .tc) α) : Prog (TpuEff nD τ sig (Elt F) Λ₀ .tc) α :=
  .op (.load tM (Rect.unit (s := S8x512) ![0, 0] S8x512.size inb_S8x512_S8x512_0_0).toLoadRect (View.loadsAt_vmem h_S8x512)) fun t =>
  .op (.load oM (Rect.unit (s := S1024x512) ![0, 0] S1024x512.size inb_S1024x512_S1024x512_0_0).toLoadRect (View.loadsAt_vmem h_S1024x512)) fun v =>
  .op (.load oM (Rect.unit (s := S1024x512) ![0, 0] S1024x512.size inb_S1024x512_S1024x512_0_0).toLoadRect (View.loadsAt_vmem h_S1024x512)) fun _ =>
  .op (.store oM (Rect.unit (s := S1024x512) ![0, 0] S1024x512.size inb_S1024x512_S1024x512_0_0) (k0_pay22 v2 t v) Finset.univ
    (View.stores_vmem_bits_univ h_S1024x512 rfl) (.inl rfl)) k

set_option maxRecDepth 65536 in
theorem part21_steps (v2 : BitVec 32) :
    k0_part21 (F := F) xM (Memref.isWhole_whole _) oM (Memref.isWhole_whole _) tM (Memref.isWhole_whole _) cc0_scratch1 cc0_scratch2
        v2 (Scalar.extui (Scalar.cmpi .sgt v2 1#32)) 0#32
      = (waitStep (isGt v2 1#32) (recvS 1) 1 fun _ => waitStep (isGt v2 2#32) (recvS 2) 2 fun _ =>
        waitStep (isGt v2 3#32) (recvS 3) 3 fun _ => waitStep (isGt v2 4#32) (recvS 4) 4 fun _ =>
        waitStep (isGt v2 5#32) (recvS 5) 5 fun _ => waitStep (isGt v2 6#32) (recvS 6) 6 fun _ =>
        waitStep (isGt v2 7#32) (recvS 7) 7 fun _ => addStep v2 .ret) := rfl

set_option maxRecDepth 65536 in
theorem part22_steps (v2 : BitVec 32) :
    k0_part22 (F := F) xM (Memref.isWhole_whole _) oM (Memref.isWhole_whole _) tM (Memref.isWhole_whole _) cc0_scratch1 cc0_scratch2 v2
      = (waitStep (isLt v2 0#32) (recvS 0) 0 fun _ => waitStep (isLt v2 1#32) (recvS 1) 1 fun _ =>
        waitStep (isLt v2 2#32) (recvS 2) 2 fun _ => waitStep (isLt v2 3#32) (recvS 3) 3 fun _ =>
        waitStep (isLt v2 4#32) (recvS 4) 4 fun _ => waitStep (isLt v2 5#32) (recvS 5) 5 fun _ =>
        waitStep (isLt v2 6#32) (recvS 6) 6 fun _ => waitStep (isLt v2 7#32) (recvS 7) 7 fun _ =>
        waitStep (isNe v2 0#32) (sendS 0) 0 fun _ => waitStep (isNe v2 1#32) (sendS 1) 0 .ret) := rfl

set_option maxRecDepth 65536 in
theorem body_steps :
    cc0_body (F := F) xM (Memref.isWhole_whole _) oM (Memref.isWhole_whole _) tM (Memref.isWhole_whole _) cc0_scratch1 cc0_scratch2
      = (k0_part17 (F := F) xM (Memref.isWhole_whole _) oM (Memref.isWhole_whole _) tM (Memref.isWhole_whole _) cc0_scratch1 cc0_scratch2 >>= fun a =>
        k0_part18 (F := F) xM (Memref.isWhole_whole _) oM (Memref.isWhole_whole _) tM (Memref.isWhole_whole _) cc0_scratch1 cc0_scratch2 a.2.1 a.2.2.2 >>= fun b =>
        k0_part19 (F := F) xM (Memref.isWhole_whole _) oM (Memref.isWhole_whole _) tM (Memref.isWhole_whole _) cc0_scratch1 cc0_scratch2
          a.1 a.2.1 a.2.2.1 b.1 b.2 >>= fun e =>
        k0_part20 (F := F) xM (Memref.isWhole_whole _) oM (Memref.isWhole_whole _) tM (Memref.isWhole_whole _) cc0_scratch1 cc0_scratch2
          a.1 a.2.1 b.1 e.1 e.2 >>= fun f =>
        k0_part21 (F := F) xM (Memref.isWhole_whole _) oM (Memref.isWhole_whole _) tM (Memref.isWhole_whole _) cc0_scratch1 cc0_scratch2
          a.2.1 f.1 f.2 >>= fun _ =>
        k0_part22 (F := F) xM (Memref.isWhole_whole _) oM (Memref.isWhole_whole _) tM (Memref.isWhole_whole _) cc0_scratch1 cc0_scratch2 a.2.1 >>= fun _ =>
        waitStep (isNe a.2.1 2#32) (sendS 2) 0 fun _ => waitStep (isNe a.2.1 3#32) (sendS 3) 0 fun _ =>
        waitStep (isNe a.2.1 4#32) (sendS 4) 0 fun _ => waitStep (isNe a.2.1 5#32) (sendS 5) 0 fun _ =>
        waitStep (isNe a.2.1 6#32) (sendS 6) 0 fun _ => waitStep (isNe a.2.1 7#32) (sendS 7) 0 .ret) := rfl

end Cert.KernelIdeal.Scan

end
-- ==== Proof.Ideal.Schedule.lean ====
module

public import proofs.«01_k».proof.Proof.Ideal.Steps
public import Idealize.ShloMosaic.Lib.Pipeline.ValueKit.Geometry

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the mesh's with a duty per other device -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Fin 8) : GSem nD τ sig := ((Dev.tc (c : Dev nD) : Thread nD τ), .reg barS)
abbrev sendCell (c k : Fin 8) : GSem nD τ sig := ((Dev.tc (c : Dev nD) : Thread nD τ), .dma (sendS k))
abbrev recvCell (c j : Fin 8) : GSem nD τ sig := ((Dev.tc (c : Dev nD) : Thread nD τ), .dma (recvS j))

/-- The kernel's own semaphores in order: the eight a send completes on, the eight a total arrives on. -/
def osem (i : Fin 16) : SemLoc sig := .dma ⟨i.val + 2, by have := i.isLt; show i.val + 2 < 18; omega⟩
/-- All that the mesh's protocol uses: the barrier's, then those. -/
def csem (i : Fin 17) : SemLoc sig := if h : i.val = 0 then .reg barS else osem ⟨i.val - 1, by have := i.isLt; omega⟩
abbrev kcell (ck : Fin 8 × Fin 17) : GSem nD τ sig := ((Dev.tc (ck.1 : Dev nD) : Thread nD τ), csem ck.2)

def sIx (k : Fin 8) : Fin 17 := ⟨k.val + 1, by have := k.isLt; omega⟩
def rIx (j : Fin 8) : Fin 17 := ⟨j.val + 9, by have := j.isLt; omega⟩

theorem csem_zero : csem 0 = .reg barS := by decide
theorem csem_sIx (k : Fin 8) : csem (sIx k) = .dma (sendS k) := by revert k; decide
theorem csem_rIx (j : Fin 8) : csem (rIx j) = .dma (recvS j) := by revert j; decide

theorem sendS_inj {k k' : Fin 8} (h : sendS k = sendS k') : k = k' := by revert k k'; decide
theorem recvS_inj {k k' : Fin 8} (h : recvS k = recvS k') : k = k' := by revert k k'; decide
theorem recvS_ne_sendS (j k : Fin 8) : recvS j ≠ sendS k := by revert j k; decide

/-- The credit of one row. -/
abbrev N : ℕ := (rowM 0).view.dmaCredit
theorem N_pos : 0 < N := View.dmaCredit_pos _ (by decide)
theorem credit_row (n : Fin 8) : (rowM n).view.dmaCredit = N := rfl

/-! ## The rows of the totals -/

abbrev tLoc (c : Fin 8) : Loc nD τ sig := (Dev.tc (c : Dev nD) : Thread nD τ).loc cc0_scratch0
abbrev TBuf (F : FTy → Type) : Type := (cc0_scratch0 : Ref sig .tc).ty.Contents (Elt F)

/-- The elements of row `n`. -/
abbrev rowSet (n : Fin 8) : Finset (cc0_scratch0 : Ref sig .tc).ty.Idx := (rowM n).view.set

theorem mem_row {n : Fin 8} {i : (cc0_scratch0 : Ref sig .tc).ty.Idx} : i ∈ rowSet n ↔ (i 0).val = n.val := by
  show i ∈ ((View.whole cc0_scratch0).slice (rowR n)).set ↔ _
  rw [View.set_slice_whole]
  refine Rect.mem_set_unit.trans ?_
  have h1 : (i 1).val < 512 := (i 1).isLt
  constructor
  · intro h
    have h0 := h 0
    have e0 : (![n.val, 0] : Fin 2 → ℕ) 0 = n.val := rfl
    have e1 : S1x512.size 0 = 1 := rfl
    rw [e0, e1] at h0
    omega
  · intro h a
    fin_cases a
    · show n.val ≤ (i 0).val ∧ (i 0).val < n.val + 1
      omega
    · show 0 ≤ (i 1).val ∧ (i 1).val < 0 + 512
      omega

theorem row_disjoint {n n' : Fin 8} (h : n ≠ n') : Disjoint (rowSet n) (rowSet n') :=
  Finset.disjoint_left.mpr fun i hi hi' => h (Fin.ext ((mem_row.mp hi).symm.trans (mem_row.mp hi')))

theorem row_cover : Finset.univ.biUnion rowSet = Finset.univ :=
  Finset.eq_univ_iff_forall.mpr fun i => Finset.mem_biUnion.mpr ⟨(i 0 : Fin 8), Finset.mem_univ _, mem_row.mpr rfl⟩

theorem row_nonempty (n : Fin 8) : ∃ i, i ∈ rowSet n :=
  ⟨(rowM n).view.emb (fun a => ⟨0, by fin_cases a <;> decide⟩), View.emb_mem_set _ _⟩

/-! ## The totals once all have arrived -/

section Tot
variable (X : Fin 8 → FVec F S1024x512 .f32)

/-- Device `d`'s column totals. -/
def rowTot (d : Fin 8) : FVec F S1x512 .f32 := k0_pay3 (k0_pay1 (X d))

/-- The buffer whose row `d` is device `d`'s column totals. -/
def tot : TBuf F := fun i => rowTot X (i 0 : Fin 8) (fun a => match a with | 0 => (0 : Fin 1) | 1 => (i 1 : Fin 512))

theorem read_tot (n : Fin 8) : (rowM n).view.read (Elt F) (tot X) = rowTot X n := by
  funext x
  have h0 : x 0 = (0 : Fin 1) := Subsingleton.elim (α := Fin 1) _ _
  have e0 : ((rowM n).view.emb x) 0 = (n : Fin 8) := by
    refine Fin.ext ?_
    exact mem_row.mp (View.emb_mem_set _ x)
  have e1 : ((rowM n).view.emb x) 1 = (x 1 : Fin 512) := by
    refine Fin.ext ?_
    refine (ValueKit.view_emb_slice_whole_unit_val cc0_scratch0 ![n.val, 0] S1x512.size (rowIn n) x 1).trans ?_
    exact Nat.zero_add _
  show tot X ((rowM n).view.emb x) = _
  unfold tot
  rw [e0, e1]
  congr 1
  funext a
  fin_cases a
  · exact h0.symm
  · rfl

/-- Writing device `n`'s totals over row `n` of any buffer makes it agree with `tot` there. -/
theorem write_tot (n : Fin 8) (f : TBuf F) : ∀ i ∈ rowSet n, (rowM n).view.write (Elt F) f (rowTot X n) Finset.univ i = tot X i := by
  intro i hi
  rw [← read_tot X n, View.write_read_eq_piecewise, View.setOn_univ]
  exact Finset.piecewise_eq_of_mem _ _ _ hi

end Tot

/-! ## What changes hands -/

/-- The two halves of the full share. -/
abbrev qL : PosShare TreeShare := fullShare.left
abbrev qR : PosShare TreeShare := fullShare.right

/-- Row `n` of device `c`'s totals at share `q` and contents `f`. -/
abbrev rowPts (c n : Fin 8) (q : PosShare TreeShare) (f : TBuf F) : sProp 𝕄 := tLoc c ↦[rowSet n]{q} f

/-- Two exclusive tokens for each row of each device's totals, of rounds no wait reaches:
    the owner of the buffer keeps `tokA`, `tokB` goes with the right to write the row. -/
abbrev tokA (c j : Fin 8) : sProp 𝕄 := dutyTok ER (recvCell c j) 1 j
abbrev tokB (c j : Fin 8) : sProp 𝕄 := dutyTok ER (recvCell c j) 2 j

/-- The devices other than `c`. -/
abbrev others (c : Fin 8) : Finset (Fin 8) := Finset.univ.erase c
theorem others_nonempty (c : Fin 8) : (others c).Nonempty := by revert c; decide
theorem others_card (c : Fin 8) : (others c).card = 7 := by revert c; decide

/-- What device `c` holds its own row at while the copy to device `k` is under way. -/
abbrev qS (c k : Fin 8) : PosShare TreeShare := Transfers.dealOf qR (others c) k

/-- What device `d`'s signal hands device `c`: half of row `c` of `d`'s totals, and the right to write it. -/
def barPay (c d : Fin 8) : sProp 𝕄 := iprop((∃ f, rowPts d c qR f) ∗ tokB d c)

variable (X : Fin 8 → FVec F S1024x512 .f32)

/-- What the arrival of device `j`'s totals hands device `c`: its half of row `j`, holding them, and the right to write it. -/
def recvPay (c j : Fin 8) : sProp 𝕄 := iprop(rowPts c j qR (tot X) ∗ tokB c j)
/-- What the end of its copy to device `k` hands back to device `c`: the piece of its own row it was read at. -/
def sendPay (c k : Fin 8) : sProp 𝕄 := rowPts c c (qS c k) (tot X)

abbrev rowState (c j : Fin 8) : sProp 𝕄 := iprop((tokA c j ∗ tokB c j) ∨ (∃ f, rowPts (F := F) c j qL f))

/-- The invariant of device `c`'s totals: for each other row, either both of its tokens or half of it. -/
def RI (c : Fin 8) : sProp 𝕄 := bigSep (others c) fun j => rowState (F := F) c j

omit [FloatOps F] in
instance RI_storable (c : Fin 8) : BI.Storable (upEmb : UEmb _ 𝕄) (RI (F := F) c) := by unfold RI; infer_instance

/-! ## The schedule -/

/-- One round. A barrier cell has a duty of one unit for every other device; the send cell to a device, and the cell
    where a device's totals arrive, the one duty named after that device, of a row's credit. -/
def Rd : Rounds.Schedule (GSem nD τ sig) (Fin 8) 𝕄 where
  duties g r :=
    if r = 0 ∧ g.1.2 = .tc then
      Finset.univ.filter fun d => d ≠ (g.1.1 : Fin 8) ∧ (g.2 = .reg barS ∨ g.2 = .dma (sendS d) ∨ g.2 = .dma (recvS d))
    else ∅
  unitless _ := False
  amount g _ _ := if g.2 = .reg barS then 1 else N
  payload g _ d :=
    if g.2 = .reg barS then barPay g.1.1 d
    else if g.2 = .dma (recvS d) then recvPay X g.1.1 d
    else if g.2 = .dma (sendS d) then sendPay X g.1.1 d
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 8) :
    BI.Storable (upEmb : UEmb _ 𝕄) ((Rd (F := F) X).payload g r d) := by
  show BI.Storable upEmb (if g.2 = .reg barS then barPay g.1.1 d else if g.2 = .dma (recvS d) then recvPay X g.1.1 d
    else if g.2 = .dma (sendS d) then sendPay X g.1.1 d else iprop(emp))
  unfold barPay recvPay sendPay
  (repeat' split) <;> infer_instance

section Sched
variable (c j : Fin 8)

theorem dma_ne_bar (q : DmaSem sig) : (SemLoc.dma q : SemLoc sig) ≠ .reg barS := fun h => by cases h
theorem send_ne_recv (k j : Fin 8) : (SemLoc.dma (sendS k) : SemLoc sig) ≠ .dma (recvS j) := fun h =>
  recvS_ne_sendS j k (SemLoc.dma.inj h).symm

theorem duties_bar : (Rd (F := F) X).duties (barCell c) 0 = others c := by
  dsimp only [Rd]
  rw [if_pos ⟨rfl, rfl⟩]
  ext d
  simp
theorem duties_send : (Rd (F := F) X).duties (sendCell c j) 0 = if j = c then ∅ else {j} := by
  dsimp only [Rd]
  rw [if_pos ⟨rfl, rfl⟩]
  ext d
  rw [Finset.mem_filter]
  constructor
  · rintro ⟨-, hd, h | h | h⟩
    · exact absurd h (dma_ne_bar _)
    · have := sendS_inj (SemLoc.dma.inj h); subst this
      rw [if_neg hd]; exact Finset.mem_singleton_self _
    · exact absurd h (send_ne_recv _ _)
  · intro h
    by_cases hj : j = c
    · rw [if_pos hj] at h; exact absurd h (Finset.notMem_empty _)
    · rw [if_neg hj] at h
      have := Finset.mem_singleton.mp h; subst this
      exact ⟨Finset.mem_univ _, hj, Or.inr (Or.inl rfl)⟩
theorem duties_recv : (Rd (F := F) X).duties (recvCell c j) 0 = if j = c then ∅ else {j} := by
  dsimp only [Rd]
  rw [if_pos ⟨rfl, rfl⟩]
  ext d
  rw [Finset.mem_filter]
  constructor
  · rintro ⟨-, hd, h | h | h⟩
    · exact absurd h (dma_ne_bar _)
    · exact absurd h.symm (send_ne_recv _ _)
    · have := recvS_inj (SemLoc.dma.inj h); subst this
      rw [if_neg hd]; exact Finset.mem_singleton_self _
  · intro h
    by_cases hj : j = c
    · rw [if_pos hj] at h; exact absurd h (Finset.notMem_empty _)
    · rw [if_neg hj] at h
      have := Finset.mem_singleton.mp h; subst this
      exact ⟨Finset.mem_univ _, hj, Or.inr (Or.inr rfl)⟩
theorem duties_later (g : GSem nD τ sig) : ∀ r, 1 ≤ r → (Rd (F := F) X).duties g r = ∅ :=
  fun r hr => by dsimp only [Rd]; rw [if_neg fun h => by omega]

theorem amount_bar (d : Fin 8) : (Rd (F := F) X).amount (barCell c) 0 d = 1 := by dsimp only [Rd]; exact if_pos rfl
theorem amount_dma (t : Thread nD τ) (q : DmaSem sig) (d : Fin 8) : (Rd (F := F) X).amount (t, .dma q) 0 d = N := by
  dsimp only [Rd]; exact if_neg (dma_ne_bar q)

theorem expect_bar : (Rd (F := F) X).expect (barCell c) 0 = 7 := by
  unfold Schedule.expect Schedule.amountOf
  rw [duties_bar, Finset.sum_congr rfl fun d _ => amount_bar X c d, Finset.sum_const, others_card, smul_eq_mul]
theorem expect_send (h : j ≠ c) : (Rd (F := F) X).expect (sendCell c j) 0 = N := by
  unfold Schedule.expect Schedule.amountOf; rw [duties_send, if_neg h, Finset.sum_singleton, amount_dma]
theorem expect_recv (h : j ≠ c) : (Rd (F := F) X).expect (recvCell c j) 0 = N := by
  unfold Schedule.expect Schedule.amountOf; rw [duties_recv, if_neg h, Finset.sum_singleton, amount_dma]

theorem payload_bar (d : Fin 8) : (Rd (F := F) X).payload (barCell c) 0 d = barPay c d := by dsimp only [Rd]; rw [if_pos rfl]
theorem payload_send : (Rd (F := F) X).payload (sendCell c j) 0 j = sendPay X c j := by
  dsimp only [Rd]; rw [if_neg (dma_ne_bar _), if_neg (send_ne_recv _ _), if_pos rfl]
theorem payload_recv : (Rd (F := F) X).payload (recvCell c j) 0 j = recvPay X c j := by
  dsimp only [Rd]; rw [if_neg (dma_ne_bar _), if_pos rfl]

/-- What the barrier wait hands device `c`: every other device's half of its row there. -/
theorem rest_bar : bigSep ((Rd (F := F) X).duties (barCell c) 0 \ ∅) (fun d => (Rd (F := F) X).payload (barCell c) 0 d)
    = bigSep (others c) fun d => barPay (F := F) c d := by
  rw [Finset.sdiff_empty, duties_bar]
  exact bigSep_congr fun d _ => payload_bar X c d
theorem rest_send (h : j ≠ c) : bigSep ((Rd (F := F) X).duties (sendCell c j) 0 \ ∅) (fun d => (Rd (F := F) X).payload (sendCell c j) 0 d)
    = sendPay X c j := by
  rw [Finset.sdiff_empty, duties_send, if_neg h, bigSep_singleton, payload_send]
theorem rest_recv (h : j ≠ c) : bigSep ((Rd (F := F) X).duties (recvCell c j) 0 \ ∅) (fun d => (Rd (F := F) X).payload (recvCell c j) 0 d)
    = recvPay X c j := by
  rw [Finset.sdiff_empty, duties_recv, if_neg h, bigSep_singleton, payload_recv]

end Sched

/-! ## What each device owes at launch; the levels -/

/-- The arrivals device `c` owes the devices of `S`, and the barrier signals. -/
def sendO (c : Fin 8) (S : Finset (Fin 8)) : CellTallies nD τ sig Unit := ∑ t ∈ S, tallyAt (recvCell t c) () N
def barO (c : Fin 8) (S : Finset (Fin 8)) : CellTallies nD τ sig Unit := ∑ t ∈ S, tallyAt (barCell t) () 1
def O₀ (c : Fin 8) : CellTallies nD τ sig Unit := sendO c (others c) + barO c (others c)

theorem sendO_erase (c : Fin 8) {S : Finset (Fin 8)} {t : Fin 8} (h : t ∈ S) :
    sendO c S = sendO c (S.erase t) + tallyAt (recvCell t c) () N := (Finset.sum_erase_add _ _ h).symm
theorem barO_erase (c : Fin 8) {S : Finset (Fin 8)} {t : Fin 8} (h : t ∈ S) :
    barO c S = barO c (S.erase t) + tallyAt (barCell t) () 1 := (Finset.sum_erase_add _ _ h).symm

def L (g : GSem nD τ sig) : Finset Unit := if g.1.2 = .tc then {()} else ∅
/-- Barrier cells at 1, arrival cells at 2, everything else at 0. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl

theorem sum_pos_imp {S : Finset (Fin 8)} {f : Fin 8 → CellTallies nD τ sig Unit} {g : GSem nD τ sig} {u : Unit}
    (h : 0 < (∑ t ∈ S, f t) g u) : ∃ t ∈ S, 0 < f t g u := by
  by_contra hn
  have hz : ∀ t ∈ S, f t g u = 0 := fun t ht => Nat.eq_zero_of_not_pos fun hp => hn ⟨t, ht, hp⟩
  rw [Finset.sum_apply, Finsupp.finset_sum_apply, Finset.sum_eq_zero hz] at h
  exact Nat.lt_irrefl 0 h

theorem tallyAt_pos {g g' : GSem nD τ sig} {k : ℕ} {u : Unit} (h : 0 < tallyAt g () k g' u) : g' = g := by
  rw [tallyAt_apply] at h
  by_contra hn
  rw [if_neg (fun h' => hn h'.1)] at h
  exact Nat.lt_irrefl 0 h

theorem sendO_pos {c : Fin 8} {S : Finset (Fin 8)} {g : GSem nD τ sig} {u : Unit} (h : 0 < sendO c S g u) : ∃ t, g = recvCell t c := by
  obtain ⟨t, -, ht⟩ := sum_pos_imp h; exact ⟨t, tallyAt_pos ht⟩
theorem barO_pos {c : Fin 8} {S : Finset (Fin 8)} {g : GSem nD τ sig} {u : Unit} (h : 0 < barO c S g u) : ∃ t, g = barCell t := by
  obtain ⟨t, -, ht⟩ := sum_pos_imp h; exact ⟨t, tallyAt_pos ht⟩
theorem O₀_pos {c : Fin 8} {g : GSem nD τ sig} {u : Unit} (h : 0 < O₀ c g u) : (∃ t, g = recvCell t c) ∨ ∃ t, g = barCell t := by
  unfold O₀ at h
  rw [Pi.add_apply, Finsupp.add_apply] at h
  rcases Nat.eq_zero_or_pos (sendO c (others c) g u) with h0 | h0
  · right; rw [h0, Nat.zero_add] at h; exact barO_pos h
  · left; exact sendO_pos h0

theorem lv_recv (t j : Fin 8) (u : Unit) : lv (recvCell t j) u = 2 := by
  dsimp only [lv]; rw [if_neg (dma_ne_bar _), if_pos ⟨j, rfl⟩]
theorem lv_bar (t : Fin 8) (u : Unit) : lv (barCell t) u = 1 := by dsimp only [lv]; rw [if_pos rfl]

/-- A device may wait on a staging semaphore whatever the protocol still owes. -/
theorem mayWait_stage (c : Fin 8) (q : DmaSem sig) (hq : ∀ j, q ≠ recvS j) (O : CellTallies nD τ sig Unit) (hO : O = O₀ c ∨ O = 0) :
    (levAts L lv : sProp 𝕄) ⊢ MayWait (Dev.tc (c : Dev nD) : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨t, rfl⟩ <;> exact Finset.mem_singleton_self _)
      (fun p hp => by
        rw [Finset.mem_singleton.mp hp]; dsimp only [lv]
        rw [if_neg (dma_ne_bar q), if_neg (fun ⟨j, h⟩ => hq j (SemLoc.dma.inj h))])
      (fun g u hg => by
        rcases O₀_pos hg with ⟨t, rfl⟩ | ⟨t, rfl⟩
        · rw [lv_recv]; decide
        · rw [lv_bar]; decide)
  · rw [MayWait_zero]; iintro -; iempintro

/-- At its barrier wait a device owes arrivals only. -/
theorem mayWait_bar (c : Fin 8) (S : Finset (Fin 8)) :
    (levAts L lv : sProp 𝕄) ⊢ MayWait (Dev.tc (c : Dev nD) : Thread nD τ) (.reg barS) () (sendO c S) :=
  MayOwe.of_cut (L := L) (lev := lv) 1 (fun p hp => by rw [Finset.mem_singleton.mp hp, L_tc]; exact Finset.mem_singleton_self _)
    (fun g u hg => by obtain ⟨t, rfl⟩ := sendO_pos hg; exact Finset.mem_singleton_self _)
    (fun p hp => by rw [Finset.mem_singleton.mp hp]; dsimp only [lv]; rw [if_pos rfl])
    (fun g u hg => by obtain ⟨t, rfl⟩ := sendO_pos hg; rw [lv_recv]; decide)

/-! ## The records every device shares -/

/-- Every cell's invariant, that its round 0 is reached, and every device's row invariant, under the names the launch chose. -/
def recs (K : Fin 8 × Fin 17 → ℕ) (KR : Fin 8 → ℕ) : sProp 𝕄 :=
  iprop((bigSep Finset.univ fun ck : Fin 8 × Fin 17 => iprop(cellInv ER (Rd X) (K ck) (kcell ck) ∗ reached ER (kcell ck) 0))
    ∗ bigSep Finset.univ fun c : Fin 8 => inv (KR c) (RI (F := F) c))

instance recs_persistent (K : Fin 8 × Fin 17 → ℕ) (KR : Fin 8 → ℕ) : BI.Persistent (recs X K KR) := by unfold recs; infer_instance

section Recs
variable {X} {K : Fin 8 × Fin 17 → ℕ} {KR : Fin 8 → ℕ}

theorem recs_cell (ck : Fin 8 × Fin 17) : recs X K KR ⊢ iprop(cellInv ER (Rd X) (K ck) (kcell ck) ∗ reached ER (kcell ck) 0) := by
  unfold recs
  exact sep_elim_left.trans (bigSep_elim (Finset.mem_univ ck))
theorem recs_bar (c : Fin 8) : recs X K KR ⊢ iprop(cellInv ER (Rd X) (K (c, 0)) (barCell c) ∗ reached ER (barCell c) 0) := by
  have h := recs_cell (X := X) (K := K) (KR := KR) (c, 0)
  dsimp only [kcell] at h
  rw [csem_zero] at h
  exact h
theorem recs_send (c k : Fin 8) : recs X K KR ⊢ iprop(cellInv ER (Rd X) (K (c, sIx k)) (sendCell c k) ∗ reached ER (sendCell c k) 0) := by
  have h := recs_cell (X := X) (K := K) (KR := KR) (c, sIx k)
  dsimp only [kcell] at h
  rw [csem_sIx] at h
  exact h
theorem recs_recv (c j : Fin 8) : recs X K KR ⊢ iprop(cellInv ER (Rd X) (K (c, rIx j)) (recvCell c j) ∗ reached ER (recvCell c j) 0) := by
  have h := recs_cell (X := X) (K := K) (KR := KR) (c, rIx j)
  dsimp only [kcell] at h
  rw [csem_rIx] at h
  exact h
theorem recs_row (c : Fin 8) : recs X K KR ⊢ inv (KR c) (RI (F := F) c) := by
  unfold recs
  exact sep_elim_right.trans (bigSep_elim (Finset.mem_univ c))

end Recs

end Cert.KernelIdeal.Scan
-- ==== Proof.Ideal.Rows.lean ====
module

public import proofs.«01_k».proof.Proof.Ideal.Schedule

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of assertions -/

omit [FloatOps F] in
theorem family_sep (s : Finset (Fin 8)) (Φ Ψ : Fin 8 → sProp 𝕄) :
    bigSep s (fun i => iprop(Φ i ∗ Ψ i)) = iprop(bigSep s Φ ∗ bigSep s Ψ) := bigSep_sep s Φ Ψ

omit [FloatOps F] in
theorem family_erase {s : Finset (Fin 8)} {i : Fin 8} (hi : i ∈ s) (Φ : Fin 8 → sProp 𝕄) :
    bigSep s Φ = iprop(Φ i ∗ bigSep (s.erase i) Φ) := bigSep_erase hi

omit [FloatOps F] in
theorem family_insert {s : Finset (Fin 8)} {i : Fin 8} (hi : i ∉ s) (Φ : Fin 8 → sProp 𝕄) :
    bigSep (insert i s) Φ = iprop(Φ i ∗ bigSep s Φ) := bigSep_insert hi

omit [FloatOps F] in
theorem family_univ (i : Fin 8) (Φ : Fin 8 → sProp 𝕄) :
    bigSep Finset.univ Φ = iprop(Φ i ∗ bigSep (others i) Φ) := bigSep_erase (Finset.mem_univ i)

omit [FloatOps F] in
theorem family_mono {s : Finset (Fin 8)} {Φ Ψ : Fin 8 → sProp 𝕄} (h : ∀ i ∈ s, (Φ i : sProp 𝕄) ⊢ Ψ i) :
    (bigSep s Φ : sProp 𝕄) ⊢ bigSep s Ψ := bigSep_mono h

omit [FloatOps F] in
/-- Two families exchanged member by member for two others. -/
theorem family_swap {s : Finset (Fin 8)} {Φ Ψ Φ' Ψ' : Fin 8 → sProp 𝕄} (h : ∀ i ∈ s, iprop(Φ i ∗ Ψ i) ⊢ iprop(Φ' i ∗ Ψ' i)) :
    iprop(bigSep s Φ ∗ bigSep s Ψ) ⊢ iprop(bigSep s Φ' ∗ bigSep s Ψ') := by
  rw [← family_sep, ← family_sep]; exact bigSep_mono h

omit [FloatOps F] in
/-- Pure facts of a family of assertions, one for each member. -/
theorem family_pure {s : Finset (Fin 8)} (p : Fin 8 → Prop) (Φ : Fin 8 → sProp 𝕄) :
    bigSep s (fun i => iprop(⌜p i⌝ ∗ Φ i)) ⊢ iprop(⌜∀ i ∈ s, p i⌝ ∗ bigSep s Φ) := by
  induction s using Finset.induction_on with
  | empty =>
    rw [bigSep_empty, bigSep_empty]
    iintro -
    isplitr
    · ipureintro; exact fun i hi => absurd hi (Finset.notMem_empty i)
    · iempintro
  | insert i s hi ih =>
    refine (Entails.of_eq (family_insert hi _)).trans ((BIClass.sep_mono .rfl ih).trans (BIBase.Entails.trans ?_ (BIClass.sep_mono .rfl (Entails.of_eq (family_insert hi _).symm))))
    iintro ⟨⟨%h, Hi⟩, ⟨%hs, Hs⟩⟩
    isplitr
    · ipureintro; intro j hj
      rcases Finset.mem_insert.mp hj with rfl | hj
      · exact h
      · exact hs j hj
    · isplitl [Hi] <;> iassumption

/-! ## Facts about one row at one share -/

/-- The whole of a device's totals is its rows. -/
theorem rows_eq (c : Fin 8) (q : PosShare TreeShare) (f : TBuf F) :
    (tLoc c ↦{q} f : sProp 𝕄) = bigSep Finset.univ fun j => rowPts c j q f := by
  have h : (bigSep Finset.univ fun j => rowPts c j q f : sProp 𝕄) = tLoc c ↦[Finset.univ.biUnion rowSet]{q} f :=
    (pointsTo_biUnion (ℓ := tLoc c) Finset.univ rowSet (fun b _ b' _ h => row_disjoint h)).symm
  rw [h, row_cover]

/-- The two halves of a row make the row, their contents agreeing. -/
theorem row_join (c j : Fin 8) (f g : TBuf F) :
    iprop(rowPts c j qL f ∗ rowPts c j qR g) ⊢ (rowPts c j fullShare g : sProp 𝕄) := by
  iintro H
  ihave H2 := (persistent_entails_right (pointsTo_agree (ℓ := tLoc c) (I := rowSet j) (J := rowSet j))) $$ H
  icases H2 with ⟨%h, Hl, Hr⟩
  ihave Hl := (Entails.of_eq (pointsTo_congr (fun i hi => (h i (Finset.mem_inter.mpr ⟨hi, hi⟩)).1))) $$ Hl
  iapply (pointsTo_share (PosShare.mem_left_op_right fullShare)).2
  isplitl [Hl] <;> iassumption

theorem row_split (c j : Fin 8) (f : TBuf F) :
    (rowPts c j fullShare f : sProp 𝕄) ⊢ iprop(rowPts c j qL f ∗ rowPts c j qR f) :=
  (pointsTo_share (PosShare.mem_left_op_right fullShare)).1

/-- Two halves of a row agree. -/
theorem row_agree (c j : Fin 8) (f g : TBuf F) :
    iprop(rowPts c j qL f ∗ rowPts c j qR g) ⊢ (iprop(rowPts c j qL g ∗ rowPts c j qR g) : sProp 𝕄) := by
  iintro H
  iapply (row_split c j g)
  iapply (row_join c j f g)
  iexact H

/-- Nobody holds part of a row beside the whole of it. -/
theorem row_full_false (c j : Fin 8) (q : PosShare TreeShare) (f g : TBuf F) :
    iprop(rowPts c j fullShare f ∗ rowPts c j q g) ⊢ (⌜False⌝ : sProp 𝕄) := by
  obtain ⟨i, hi⟩ := row_nonempty j
  exact pointsTo_full_share_false hi hi

/-! ## The owner of the totals -/

section Owner
variable (c : Fin 8)

/-- A row held whole: its tokens are inside the invariant; they are exchanged for half of the row. -/
theorem arm_row (j : Fin 8) :
    iprop((∃ f, rowPts (F := F) c j fullShare f) ∗ rowState c j)
      ⊢ (iprop((tokA c j ∗ tokB c j ∗ ∃ f, rowPts (F := F) c j qR f) ∗ rowState c j) : sProp 𝕄) := by
  iintro ⟨⟨%f, Hf⟩, (⟨HA, HB⟩ | ⟨%g, Hg⟩)⟩
  · ihave Hf := (row_split c j f) $$ Hf
    icases Hf with ⟨Hl, Hr⟩
    isplitr [Hl]
    · isplitl [HA]; · iexact HA
      isplitl [HB]; · iexact HB
      iexists f; iexact Hr
    · iright; iexists f; iexact Hl
  · iexfalso
    iapply (row_full_false c j qL f g)
    isplitl [Hf] <;> iassumption

/-- Both tokens and the half of a row that has arrived: exchanged for the row whole. -/
theorem disarm_row (j : Fin 8) (t : TBuf F) :
    iprop((tokA c j ∗ tokB c j ∗ rowPts c j qR t) ∗ rowState c j)
      ⊢ (iprop(rowPts c j fullShare t ∗ rowState c j) : sProp 𝕄) := by
  iintro ⟨⟨HA, HB, Hr⟩, (⟨HA', HB'⟩ | ⟨%g, Hg⟩)⟩
  · iexfalso
    iapply (dutyTok_dutyTok_false ER)
    isplitl [HA] <;> iassumption
  · isplitl [Hr Hg]
    · iapply (row_join c j g t)
      isplitl [Hg] <;> iassumption
    · ileft
      isplitl [HA] <;> iassumption

theorem arm {κ : ℕ} :
    iprop(inv κ (RI (F := F) c) ∗ bigSep (others c) (fun j => iprop(∃ f, rowPts (F := F) c j fullShare f)))
      ⊢ (iprop(|={Set.univ}=> bigSep (others c) fun j => iprop(tokA c j ∗ tokB c j ∗ ∃ f, rowPts (F := F) c j qR f)) : sProp 𝕄) := by
  iintro ⟨HI, Hf⟩
  imod (inv_acc (Set.mem_univ κ)) $$ HI with ⟨HR, Hclose⟩
  unfold RI
  ihave H := (show iprop(bigSep (others c) (fun j => iprop(∃ f, rowPts (F := F) c j fullShare f)) ∗ bigSep (others c) (fun j => rowState (F := F) c j))
      ⊢ (iprop(bigSep (others c) (fun j => iprop(tokA c j ∗ tokB c j ∗ ∃ f, rowPts (F := F) c j qR f)) ∗ bigSep (others c) (fun j => rowState (F := F) c j)) : sProp 𝕄) from by
    exact family_swap fun j _ => arm_row c j) $$ [Hf HR]
  · isplitl [Hf] <;> iassumption
  icases H with ⟨Ho, HR⟩
  ihave Hc := Hclose $$ HR
  imod Hc
  imodintro
  iexact Ho

theorem disarm {κ : ℕ} (t : TBuf F) :
    iprop(inv κ (RI (F := F) c) ∗ bigSep (others c) (fun j => iprop(tokA c j ∗ tokB c j ∗ rowPts c j qR t)))
      ⊢ (iprop(|={Set.univ}=> bigSep (others c) fun j => rowPts c j fullShare t) : sProp 𝕄) := by
  iintro ⟨HI, Hf⟩
  imod (inv_acc (Set.mem_univ κ)) $$ HI with ⟨HR, Hclose⟩
  unfold RI
  ihave H := (show iprop(bigSep (others c) (fun j => iprop(tokA c j ∗ tokB c j ∗ rowPts c j qR t)) ∗ bigSep (others c) (fun j => rowState (F := F) c j))
      ⊢ (iprop(bigSep (others c) (fun j => rowPts c j fullShare t) ∗ bigSep (others c) (fun j => rowState (F := F) c j)) : sProp 𝕄) from by
    exact family_swap fun j _ => disarm_row c j t) $$ [Hf HR]
  · isplitl [Hf] <;> iassumption
  icases H with ⟨Ho, HR⟩
  ihave Hc := Hclose $$ HR
  imod Hc
  imodintro
  iexact Ho

/-! ### Loading the totals while rows of later devices may be landing -/

variable (X : Fin 8 → FVec F S1024x512 .f32)

/-- What the owner knows of another row: if the row belongs to an earlier device its totals have arrived. -/
abbrev rowKnown (j : Fin 8) : sProp 𝕄 := if j < c then recvPay X c j else iprop(emp)

theorem peek_row (j : Fin 8) :
    iprop((tokA c j ∗ rowKnown c X j) ∗ rowState c j)
      ⊢ (iprop((tokA c j ∗ rowKnown c X j) ∗ ∃ f, ⌜j < c → ∀ i ∈ rowSet j, f i = tot X i⌝ ∗ rowPts c j qL f) : sProp 𝕄) := by
  by_cases h : j < c
  · have e : rowKnown c X j = iprop(rowPts c j qR (tot X) ∗ tokB c j) := if_pos h
    rw [e]
    iintro ⟨⟨HA, Hr, HB⟩, (⟨HA', HB'⟩ | ⟨%g, Hg⟩)⟩
    · iexfalso
      iapply (dutyTok_dutyTok_false ER)
      isplitl [HA] <;> iassumption
    ihave H := (row_agree c j g (tot X)) $$ [Hg Hr]
    · isplitl [Hg] <;> iassumption
    icases H with ⟨Hg, Hr⟩
    isplitl [HA Hr HB]
    · isplitl [HA]; · iexact HA
      isplitl [Hr] <;> iassumption
    iexists (tot X)
    isplitr; · ipureintro; exact fun _ _ _ => rfl
    iexact Hg
  · iintro ⟨⟨HA, Hk⟩, (⟨HA', HB'⟩ | ⟨%g, Hg⟩)⟩
    · iexfalso
      iapply (dutyTok_dutyTok_false ER)
      isplitl [HA] <;> iassumption
    isplitl [HA Hk]
    · isplitl [HA] <;> iassumption
    iexists g
    isplitr; · ipureintro; exact fun h' => absurd h' h
    iexact Hg

/-- The owner, its own row stored and the totals of earlier devices arrived, may look at the whole buffer: in the rows
    up to its own it holds the totals. -/
theorem peek {κ : ℕ} :
    iprop(inv κ (RI (F := F) c) ∗ bigSep (others c) (fun j => tokA c j) ∗ bigSep (others c) (rowKnown c X) ∗ rowPts c c qL (tot X))
      ⊢ (iprop(|={Set.univ, Set.univ \ {κ}}=> ∃ g : TBuf F, ⌜∀ i, (i 0).val < c.val → g i = tot X i⌝ ∗ (tLoc c ↦{qL} g)
          ∗ ((tLoc c ↦{qL} g) -∗ |={Set.univ \ {κ}, Set.univ}=>
              (bigSep (others c) (fun j => tokA c j) ∗ bigSep (others c) (rowKnown c X) ∗ rowPts c c qL (tot X)))) : sProp 𝕄) := by
  iintro ⟨HI, HA, Hk, Hc⟩
  imod (inv_acc (Set.mem_univ κ)) $$ HI with ⟨HR, Hclose⟩
  unfold RI
  ihave H := (show iprop((bigSep (others c) (fun j => tokA c j) ∗ bigSep (others c) (rowKnown c X)) ∗ bigSep (others c) (fun j => rowState (F := F) c j))
      ⊢ (iprop((bigSep (others c) (fun j => tokA c j) ∗ bigSep (others c) (rowKnown c X))
          ∗ bigSep (others c) (fun j => iprop(∃ f, ⌜j < c → ∀ i ∈ rowSet j, f i = tot X i⌝ ∗ rowPts c j qL f))) : sProp 𝕄) from by
    rw [← family_sep]; exact family_swap fun j _ => peek_row c X j) $$ [HA Hk HR]
  · isplitl [HA Hk]
    · isplitl [HA] <;> iassumption
    · iexact HR
  icases H with ⟨⟨HA, Hk⟩, Hrows⟩
  have : Nonempty (TBuf F) := ⟨tot X⟩
  ihave Hall := (show iprop(rowPts c c qL (tot X) ∗ bigSep (others c) (fun j => iprop(∃ f, ⌜j < c → ∀ i ∈ rowSet j, f i = tot X i⌝ ∗ rowPts c j qL f)))
      ⊢ (bigSep Finset.univ (fun j => iprop(∃ f, ⌜j ≤ c → ∀ i ∈ rowSet j, f i = tot X i⌝ ∗ rowPts c j qL f)) : sProp 𝕄) from by
    rw [family_univ c]
    refine BIClass.sep_mono ?_ (family_mono fun j hj => ?_)
    · iintro H; iexists (tot X)
      isplitr; · ipureintro; exact fun _ _ _ => rfl
      iexact H
    · iintro ⟨%f, %h, H⟩
      iexists f
      isplitr; · ipureintro; exact fun hle => h (lt_of_le_of_ne hle (Finset.ne_of_mem_erase hj))
      iexact H) $$ [Hc Hrows]
  · isplitl [Hc] <;> iassumption
  ihave Hall := (bigSep_exists_pi Finset.univ (fun (j : Fin 8) (f : TBuf F) => (iprop(⌜j ≤ c → ∀ i ∈ rowSet j, f i = tot X i⌝ ∗ rowPts c j qL f) : sProp 𝕄))) $$ Hall
  icases Hall with ⟨%fs, Hall⟩
  ihave Hall := (family_pure (fun j => j ≤ c → ∀ i ∈ rowSet j, fs j i = tot X i) (fun j => rowPts c j qL (fs j))) $$ Hall
  icases Hall with ⟨%hp, Hall⟩
  ihave Hall := (pointsTo_biUnion_join Finset.univ rowSet fs (tot X) (fun b _ b' _ h => row_disjoint h)) $$ Hall
  rw [row_cover]
  icases Hall with ⟨%g, %hg, Hg⟩
  imodintro
  iexists g
  isplitr
  · ipureintro
    intro i hi
    have hm : i ∈ rowSet (i 0 : Fin 8) := mem_row.mpr rfl
    rw [hg _ (Finset.mem_univ _) i hm]
    exact hp _ (Finset.mem_univ _) (le_of_lt (show (i 0 : Fin 8) < c from hi)) i hm
  isplitl [Hg]; · iexact Hg
  iintro Hg
  have hgc : ∀ i ∈ rowSet c, g i = tot X i := fun i hi => (hg c (Finset.mem_univ c) i hi).trans (hp c (Finset.mem_univ c) le_rfl i hi)
  ihave Hb := (show (tLoc c ↦{qL} g : sProp 𝕄) ⊢ iprop(rowPts c c qL (tot X) ∗ bigSep (others c) (fun j => rowState (F := F) c j)) from by
    have hc : (rowPts c c qL (tot X) : sProp 𝕄) = rowPts c c qL g := (pointsTo_congr hgc).symm
    rw [hc, rows_eq, family_univ c]
    refine BIClass.sep_mono .rfl (family_mono fun j _ => ?_)
    iintro H; iright; iexists g; iexact H) $$ Hg
  icases Hb with ⟨Hc, HR⟩
  ihave Hcl := Hclose $$ HR
  imod Hcl
  imodintro
  isplitl [HA]; · iexact HA
  isplitl [Hk] <;> iassumption

end Owner

/-! ## Writing a row of another device's totals -/

/-- Device `c`'s copy into its row of device `t`'s totals: it holds half of the row and the token to write it, and each
    step takes the other half out of the invariant and puts it back. -/
theorem row_writeUpdate (X : Fin 8 → FVec F S1024x512 .f32) {c t : Fin 8} (h : t ≠ c) {κ : ℕ} (f₀ : TBuf F) :
    iprop(inv κ (RI (F := F) t) ∗ rowPts t c qR f₀ ∗ tokB t c)
      ⊢ (writeUpdate (Dev.tc (t : Dev nD) : Thread nD τ) (rowM c).view ((rowM c).view.read (Elt F) (tot X)) (recvPay X t c) : sProp 𝕄) := by
  have hm : c ∈ others t := Finset.mem_erase.mpr ⟨h.symm, Finset.mem_univ c⟩
  have he : ∀ i ∈ rowSet c, (rowM c).view.write (Elt F) f₀ ((rowM c).view.read (Elt F) (tot X)) Finset.univ i = tot X i := by
    rw [read_tot]; exact write_tot X c f₀
  rw [writeUpdate, writeUpdateFrom_def]
  iintro ⟨#HI, Hr, HB⟩
  iexists (fun M => iprop(rowPts t c qR ((rowM c).view.write (Elt F) f₀ ((rowM c).view.read (Elt F) (tot X)) M) ∗ tokB t c))
  simp only [View.write_empty]
  isplitl [Hr HB]; · isplitl [Hr] <;> iassumption
  isplitr
  · rw [writeSteps_def]
    imodintro
    iintro %M %M' ⟨Hr, HB⟩
    imod (inv_acc (Set.mem_univ κ)) $$ HI with ⟨HR, Hclose⟩
    ihave HR := (show RI (F := F) t ⊢ iprop(rowState (F := F) t c ∗ bigSep ((others t).erase c) fun j => rowState (F := F) t j) from
      Entails.of_eq (family_erase hm _)) $$ HR
    icases HR with ⟨(⟨HA', HB'⟩ | ⟨%g, Hg⟩), HR⟩
    · iexfalso
      iapply (dutyTok_dutyTok_false ER)
      isplitl [HB] <;> iassumption
    ihave Hf := (row_join t c g _) $$ [Hg Hr]
    · isplitl [Hg] <;> iassumption
    iapply (atomically_intro frame (Set.univ \ {κ}) (storeSpec (Dev.tc (t : Dev nD) : Thread nD τ) (rowM c).view ((rowM c).view.read (Elt F) (tot X)) M') _)
    rw [storeSpec_apply]
    iexists (rowSet c), ((rowM c).view.write (Elt F) f₀ ((rowM c).view.read (Elt F) (tot X)) M)
    isplitl [Hf]; · iexact Hf
    isplitr; · ipureintro; exact View.setOn_subset_set _ _
    rw [View.write_write_union]
    iintro Hf
    ihave Hf := (row_split t c _) $$ Hf
    icases Hf with ⟨Hl, Hr⟩
    ihave Hc := Hclose $$ [Hl HR]
    · iapply (show iprop(rowState (F := F) t c ∗ bigSep ((others t).erase c) fun j => rowState (F := F) t j) ⊢ RI (F := F) t from
        Entails.of_eq (family_erase hm _).symm)
      isplitl [Hl]
      · iright; iexists _; iexact Hl
      · iexact HR
    imod Hc
    imodintro
    isplitl [Hr] <;> iassumption
  · iintro ⟨Hr, HB⟩
    ihave Hr := (Entails.of_eq (pointsTo_congr he)) $$ Hr
    unfold recvPay
    isplitl [Hr] <;> iassumption

end Cert.KernelIdeal.Scan
-- ==== Proof.Ideal.Moves.lean ====
module

public import proofs.«01_k».proof.Proof.Ideal.Rows

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core runs `p` and then has `Q`. -/
abbrev WP (c : Fin 8) {α : Type} (p : Prog (TpuEff nD τ sig (Elt F) Λ₀ .tc) α) (Q : α → sProp 𝕄) : sProp 𝕄 :=
  wp frame (wpE (defs₀ (F := F)) 𝒱₀ (Dev.tc (c : Dev nD) : Thread nD τ) none) Set.univ p Q

variable (X : Fin 8 → FVec F S1024x512 .f32) (K : Fin 8 × Fin 17 → ℕ) (KR : Fin 8 → ℕ)
variable {α : Type} {k : PUnit.{1} → Prog (TpuEff nD τ sig (Elt F) Λ₀ .tc) α}
variable {P : sProp (MT nD τ sig Unit (Elt F) ℕ UU ℕ)}
variable {Q : α → sProp (MT nD τ sig Unit (Elt F) ℕ UU ℕ)}

/-! ## The barrier's signals -/

/-- Before the signals to the devices of `S`: the signals owed, and for each its duty and what it hands over. -/
def sigSt (c : Fin 8) (S : Finset (Fin 8)) : sProp 𝕄 :=
  iprop((∃ W, owes (Dev.tc (c : Dev nD) : Thread nD τ) (sendO c (others c) + barO c S) W)
    ∗ bigSep S fun t => iprop(dutyTok ER (barCell t) 0 c ∗ barPay (F := F) t c))

theorem signal_one {c n : Fin 8} {S : Finset (Fin 8)} (hn : n ≠ c) (hS : n ∈ S) :
    iprop(recs X K KR ∗ sigSt (F := F) c S)
      ⊢ iprop((sigSt (F := F) c (S.erase n) -∗ WP c (k ⟨⟩) Q) -∗ WP c (.op (.semSignal (Dev.tc (n : Dev nD)) barS 1) k) Q) := by
  unfold sigSt
  iintro ⟨Hrec, ⟨%W, HO⟩, Hfam⟩ Hk
  ihave Hc := (recs_bar (X := X) n) $$ Hrec
  icases Hc with ⟨Hinv, Hre⟩
  ihave Hfam := (Entails.of_eq (family_erase hS _)) $$ Hfam
  icases Hfam with ⟨⟨Htok, Hpay⟩, Hfam⟩
  iapply (Rounds.wp_signal 𝒱₀ ER (Rd X) (Dev.tc (c : Dev nD) : Thread nD τ) none (dst := (Dev.tc (n : Dev nD) : Thread nD τ)) (κ := K (n, 0))
      (r := 0) (d := c) (by rw [duties_bar]; exact Finset.mem_erase.mpr ⟨hn.symm, Finset.mem_univ _⟩) (amount_bar X n c) ()
      (O₀ := sendO c (others c) + barO c S) (sendO c (others c) + barO c (S.erase n)) (by rw [barO_erase c hS, add_assoc]))
    $$ [Hinv Hre HO Htok Hpay]
  · isplitl [Hinv]; · iexact Hinv
    isplitl [HO]; · iexact HO
    isplitl [Htok]; · iexact Htok
    isplitl [Hpay]
    · iapply (Entails.of_eq (payload_bar X n c).symm); iexact Hpay
    · iexact Hre
  iintro HO
  iapply Hk
  isplitl [HO]
  · iexists W; iexact HO
  · iexact Hfam

/-- One signal step: taken for the other devices, skipped for the device itself. -/
theorem sig_chain (c n : Fin 8) {b : BitVec 1} {S S' : Finset (Fin 8)}
    (h : (b = 1#1 ∧ n ≠ c ∧ n ∈ S ∧ S' = S.erase n) ∨ (b ≠ 1#1 ∧ S' = S))
    (hk : iprop(recs X K KR ∗ sigSt (F := F) c S' ∗ P) ⊢ WP c (k ⟨⟩) Q) :
    iprop(recs X K KR ∗ sigSt (F := F) c S ∗ P) ⊢ WP c (sigStep b n k) Q := by
  rcases h with ⟨hb, hn, hS, rfl⟩ | ⟨hb, rfl⟩
  · unfold sigStep
    rw [dif_pos hb]
    iintro ⟨#Hrec, HS, HP⟩
    iapply (signal_one X K KR hn hS) $$ [HS]
    · isplitr; · iexact Hrec
      iexact HS
    iintro HS
    iapply hk
    isplitr; · iexact Hrec
    isplitl [HS] <;> iassumption
  · unfold sigStep
    rw [dif_neg hb]
    exact hk

/-! ## The device's own row -/

/-- The device's own row: before the store of its column totals, and after. -/
def ownRow (c : Fin 8) (done : Prop) [Decidable done] : sProp 𝕄 :=
  if done then rowPts c c fullShare (tot X) else iprop(∃ f, rowPts (F := F) c c fullShare f)

theorem row_chain (c n : Fin 8) {b : BitVec 1} {p p' : Prop} [Decidable p] [Decidable p']
    (h : (b = 1#1 ∧ n = c ∧ ¬ p ∧ p') ∨ (b ≠ 1#1 ∧ (p ↔ p')))
    (hk : iprop(ownRow X c p' ∗ P) ⊢ WP c (k ⟨⟩) Q) :
    iprop(ownRow X c p ∗ P) ⊢ WP c (rowStep b n (rowTot X c) k) Q := by
  rcases h with ⟨hb, rfl, hp, hp'⟩ | ⟨hb, hp⟩
  · unfold rowStep
    rw [dif_pos hb]
    have e : ownRow X n p = iprop(∃ f, rowPts (F := F) n n fullShare f) := if_neg hp
    have e' : ownRow X n p' = rowPts n n fullShare (tot X) := if_pos hp'
    rw [e]
    rw [e'] at hk
    iintro ⟨⟨%f, Hr⟩, HP⟩
    iapply (wp_load 𝒱₀ (Dev.tc (n : Dev nD) : Thread nD τ) none Set.univ (m := tM) (S := rowSet n)
      (show tM.view.setOn (rowR n).set ⊆ (tM.view.slice (rowR n)).set by rw [View.set_slice]; exact fun _ h => h)) $$ Hr
    iintro Hr
    iapply (wp_store 𝒱₀ (Dev.tc (n : Dev nD) : Thread nD τ) none Set.univ (m := tM) (r := rowR n) (Mk := Finset.univ) (S := rowSet n)
      (View.setOn_subset_set _ _)) $$ Hr
    iintro Hr
    ihave Hr := (Entails.of_eq (pointsTo_congr (write_tot X n f))) $$ Hr
    iapply hk
    isplitl [Hr] <;> iassumption
  · unfold rowStep
    rw [dif_neg hb]
    have e : ownRow X c p = ownRow X c p' := by unfold ownRow; simp only [hp]
    rw [e]; exact hk

/-! ## The copies -/

/-- Before the copies to the devices of `S`: the arrivals owed, for each what it takes, and the credit of those made. -/
def sendSt (c : Fin 8) (S : Finset (Fin 8)) : sProp 𝕄 :=
  iprop((∃ W, owes (Dev.tc (c : Dev nD) : Thread nD τ) (sendO c S) W)
    ∗ bigSep S (fun t => iprop(barPay (F := F) c t ∗ sendPay X c t ∗ dutyTok ER (sendCell c t) 0 t ∗ dutyTok ER (recvCell t c) 0 c))
    ∗ bigSep (others c \ S) fun t => cred (tallyAt (sendCell c t) () N))

theorem sdiff_erase {c t : Fin 8} {S : Finset (Fin 8)} (hS : S ⊆ others c) (ht : t ∈ S) :
    others c \ S.erase t = insert t (others c \ S) ∧ t ∉ others c \ S := by
  constructor
  · ext j
    rw [Finset.mem_sdiff, Finset.mem_erase, Finset.mem_insert, Finset.mem_sdiff]
    by_cases hj : j = t
    · subst hj; simpa using Finset.ne_of_mem_erase (hS ht)
    · simp [hj]
  · simp [ht]

theorem send_one {c t : Fin 8} {S : Finset (Fin 8)} (hS : S ⊆ others c) (ht : t ∈ S) {hsc hsrc hdst hsem} :
    iprop(recs X K KR ∗ sendSt X c S)
      ⊢ iprop((sendSt X c (S.erase t) -∗ WP c (k ⟨⟩) Q)
          -∗ WP c (.op (.enqueueDma (rowM c) (.remote (Dev.tc (t : Dev nD)) (rowM c) (.dma (sendS t)) hsc) (.dma (recvS c)) hsrc hdst hsem) k) Q) := by
  have htc : t ≠ c := Finset.ne_of_mem_erase (hS ht)
  unfold sendSt
  iintro ⟨#Hrec, ⟨%W, HO⟩, Hfam, Hcred⟩ Hk
  ihave H1 := (recs_send (X := X) c t) $$ Hrec
  icases H1 with ⟨Hinv1, Hre1⟩
  ihave H2 := (recs_recv (X := X) t c) $$ Hrec
  icases H2 with ⟨Hinv2, Hre2⟩
  ihave H3 := (recs_row (X := X) t) $$ Hrec
  ihave Hfam := (Entails.of_eq (family_erase ht _)) $$ Hfam
  icases Hfam with ⟨⟨Hbar, Hsrc, Htok1, Htok2⟩, Hfam⟩
  unfold barPay
  icases Hbar with ⟨⟨%f₀, Hrow⟩, HB⟩
  ihave HU := (row_writeUpdate X htc f₀) $$ [H3 Hrow HB]
  · isplitl [H3]; · iexact H3
    isplitl [Hrow] <;> iassumption
  iapply (Rounds.wp_send 𝒱₀ ER (Rd X) (Dev.tc (c : Dev nD) : Thread nD τ) none (c' := (Dev.tc (t : Dev nD) : Thread nD τ))
      (κ₁ := K (c, sIx t)) (κ₂ := K (t, rIx c)) (src := rowM c) (dst := rowM c) (sS := .dma (sendS t)) (sem := .dma (recvS c))
      (r₁ := 0) (r₂ := 0) (d₁ := t) (d₂ := c) (q := qS c t) (fs := tot X) (R := recvPay X t c)
      (by rw [duties_send, if_neg htc]; exact Finset.mem_singleton_self _) (by rw [duties_recv, if_neg htc.symm]; exact Finset.mem_singleton_self _)
      () () N rfl (amount_dma X _ _ _) (amount_dma X _ _ _) (sendO c (S.erase t)) (sendO_erase c ht)
      (Entails.of_eq (payload_send X c t).symm) (Entails.of_eq (payload_recv X t c).symm))
    $$ [Hinv1 Hre1 Hinv2 Hre2 Hsrc HU HO Htok1 Htok2]
  · isplitl [Hinv1]; · iexact Hinv1
    isplitl [Hinv2]; · iexact Hinv2
    isplitl [Hsrc]; · unfold sendPay; iexact Hsrc
    isplitl [HU]; · iexact HU
    isplitl [HO]; · iexact HO
    isplitl [Htok1]; · iexact Htok1
    isplitl [Hre1]; · iexact Hre1
    isplitl [Htok2]; · iexact Htok2
    iexact Hre2
  iintro ⟨Hc, HO⟩
  iapply Hk
  isplitl [HO]; · iexists W; iexact HO
  isplitl [Hfam]; · iexact Hfam
  iapply (Entails.of_eq ((congrArg (fun T => bigSep T (fun t => (cred (tallyAt (sendCell c t) () N) : sProp 𝕄))) (sdiff_erase hS ht).1).trans
    (family_insert (sdiff_erase hS ht).2 _)).symm)
  isplitl [Hc] <;> iassumption

theorem sends (c : Fin 8) : ∀ (l : List (Fin 8)) (S : Finset (Fin 8)), S ⊆ others c → l.Nodup → (∀ t ∈ l, t ∈ S) →
    (hk : iprop(recs X K KR ∗ sendSt X c (S \ l.toFinset) ∗ P) ⊢ WP c (k ⟨⟩) Q) →
    iprop(recs X K KR ∗ sendSt X c S ∗ P) ⊢ WP c (sendOps c l k) Q
  | [], S, _, _, _, hk => by
    rw [List.toFinset_nil, Finset.sdiff_empty] at hk
    exact hk
  | t :: l, S, hS, hl, hm, hk => by
    unfold sendOps
    have ht : t ∈ S := hm t List.mem_cons_self
    have ih := sends c l (S.erase t) ((Finset.erase_subset t S).trans hS) (List.nodup_cons.mp hl).2
      (fun u hu => Finset.mem_erase.mpr ⟨fun e => (List.nodup_cons.mp hl).1 (e ▸ hu), hm u (List.mem_cons_of_mem _ hu)⟩)
      (by
        have e : S \ (t :: l).toFinset = S.erase t \ l.toFinset := by
          ext u; simp only [List.toFinset_cons, Finset.mem_sdiff, Finset.mem_insert, Finset.mem_erase, not_or]; tauto
        rwa [e] at hk)
    iintro ⟨#Hrec, HS, HP⟩
    iapply (send_one X K KR hS ht) $$ [HS]
    · isplitr; · iexact Hrec
      iexact HS
    iintro HS
    iapply ih
    isplitr; · iexact Hrec
    isplitl [HS] <;> iassumption

/-- One step of the copies: taken by device `n` alone, which then has them all under way. -/
theorem send_chain (c n : Fin 8) {b : BitVec 1} {S S' : Finset (Fin 8)}
    (h : (b = 1#1 ∧ n = c ∧ S = others c ∧ S' = ∅) ∨ (b ≠ 1#1 ∧ S' = S))
    (hk : iprop(recs X K KR ∗ sendSt X c S' ∗ P) ⊢ WP c (k ⟨⟩) Q) :
    iprop(recs X K KR ∗ sendSt X c S ∗ P) ⊢ WP c (sendStep b n k) Q := by
  rcases h with ⟨hb, rfl, rfl, rfl⟩ | ⟨hb, rfl⟩
  · unfold sendStep
    rw [dif_pos hb]
    refine sends X K KR n (targets n) (others n) (fun _ h => h) ?_ ?_ ?_
    · clear hk; revert n; decide
    · clear hk; revert n; decide
    · have e : others n \ (targets n).toFinset = ∅ := by clear hk; revert n; decide
      rw [e]; exact hk
  · unfold sendStep
    rw [dif_neg hb]
    exact hk

/-! ## The waits -/

/-- A family of eight of device `c`'s own semaphores, waited for one by one: those of `S` still to wait for, and what
    those waited for handed over. -/
def waitSt (c : Fin 8) (s : Fin 8 → DmaSem sig) (pay : Fin 8 → sProp 𝕄) (S : Finset (Fin 8)) : sProp 𝕄 :=
  iprop((∃ W, owes (Dev.tc (c : Dev nD) : Thread nD τ) 0 W)
    ∗ bigSep S (fun j => iprop(cred (tallyAt ((Dev.tc (c : Dev nD) : Thread nD τ), .dma (s j)) () N)
        ∗ atPos ER ((Dev.tc (c : Dev nD) : Thread nD τ), .dma (s j)) 0 ∅ 0))
    ∗ bigSep (others c \ S) fun j => iprop(pay j ∗ atPos ER ((Dev.tc (c : Dev nD) : Thread nD τ), .dma (s j)) 1 ∅ 0))

/-- What the wait lemma asks of such a family. -/
structure Waits8 (c : Fin 8) (s : Fin 8 → DmaSem sig) (pay : Fin 8 → sProp 𝕄) : Prop where
  inv : ∀ j, ∃ κ, recs X K KR ⊢ cellInv ER (Rd X) κ ((Dev.tc (c : Dev nD) : Thread nD τ), .dma (s j))
  expect : ∀ j, j ≠ c → (Rd X).expect ((Dev.tc (c : Dev nD) : Thread nD τ), .dma (s j)) 0 = N
  rest : ∀ j, j ≠ c → bigSep ((Rd X).duties ((Dev.tc (c : Dev nD) : Thread nD τ), .dma (s j)) 0 \ ∅)
      (fun d => (Rd X).payload ((Dev.tc (c : Dev nD) : Thread nD τ), .dma (s j)) 0 d) = pay j

theorem recv_waits (c : Fin 8) : Waits8 X K KR c recvS (recvPay X c) where
  inv j := ⟨K (c, rIx j), (recs_recv c j).trans sep_elim_left⟩
  expect j h := expect_recv X c j h
  rest j h := rest_recv X c j h
theorem send_waits (c : Fin 8) : Waits8 X K KR c sendS (sendPay X c) where
  inv j := ⟨K (c, sIx j), (recs_send c j).trans sep_elim_left⟩
  expect j h := expect_send X c j h
  rest j h := rest_send X c j h

variable {X K KR}

theorem wait_one {c j n : Fin 8} {s : Fin 8 → DmaSem sig} {pay : Fin 8 → sProp 𝕄} (hw : Waits8 X K KR c s pay)
    {S : Finset (Fin 8)} (hS : S ⊆ others c) (hj : j ∈ S) {h₁ h₂} :
    iprop(recs X K KR ∗ waitSt c s pay S)
      ⊢ iprop((waitSt c s pay (S.erase j) -∗ WP c (k ⟨⟩) Q) -∗ WP c (.op (.waitDma2 (s j) (rowM n) (rowM n) h₁ h₂) k) Q) := by
  have hjc : j ≠ c := Finset.ne_of_mem_erase (hS hj)
  obtain ⟨κ, hκ⟩ := hw.inv j
  unfold waitSt
  iintro ⟨Hrec, ⟨%W, HO⟩, Hfam, Hdone⟩ Hk
  ihave Hinv := hκ $$ Hrec
  ihave Hfam := (Entails.of_eq (family_erase hj _)) $$ Hfam
  icases Hfam with ⟨⟨Hcred, Hat⟩, Hfam⟩
  iapply (Rounds.wp_wait_rest_token 𝒱₀ ER (Rd X) (Dev.tc (c : Dev nD) : Thread nD τ) none (κ := κ)
      (wpE_waitDma2_eq 𝒱₀ (Dev.tc (c : Dev nD) : Thread nD τ) none Set.univ) (Set.mem_univ _) () (O := 0) (W := W) (R := 0) (m := 0) (T := ∅)
      (by rw [Nat.zero_add, hw.expect j hjc])) $$ [Hinv Hcred HO Hat]
  · isplitl [Hinv]; · iexact Hinv
    isplitl [Hcred]; · iexact Hcred
    isplitl [HO]; · iexact HO
    isplitr; · rw [MayWait_zero]; iempintro
    iexact Hat
  iintro ⟨HO, Hat, -, Hpay⟩
  ihave Hpay := (Entails.of_eq (hw.rest j hjc)) $$ Hpay
  iapply Hk
  isplitl [HO]; · iexists _; iexact HO
  isplitl [Hfam]; · iexact Hfam
  iapply (Entails.of_eq ((congrArg (fun T => bigSep T (fun j => iprop(pay j ∗ atPos ER ((Dev.tc (c : Dev nD) : Thread nD τ), .dma (s j)) 1 ∅ 0))) (sdiff_erase hS hj).1).trans
    (family_insert (sdiff_erase hS hj).2 _)).symm)
  isplitl [Hpay Hat]
  · isplitl [Hpay] <;> iassumption
  · iexact Hdone

/-- One wait step: taken or skipped as its condition says. -/
theorem wait_chain {c : Fin 8} (j n : Fin 8) {s : Fin 8 → DmaSem sig} {pay : Fin 8 → sProp 𝕄} (hw : Waits8 X K KR c s pay)
    {b : BitVec 1} {S S' : Finset (Fin 8)} (h : (b = 1#1 ∧ j ∈ S ∧ S ⊆ others c ∧ S' = S.erase j) ∨ (b ≠ 1#1 ∧ S' = S))
    (hk : iprop(recs X K KR ∗ waitSt c s pay S' ∗ P) ⊢ WP c (k ⟨⟩) Q) :
    iprop(recs X K KR ∗ waitSt c s pay S ∗ P) ⊢ WP c (waitStep b (s j) n k) Q := by
  rcases h with ⟨hb, hj, hS, rfl⟩ | ⟨hb, rfl⟩
  · unfold waitStep
    rw [dif_pos hb]
    iintro ⟨#Hrec, HS, HP⟩
    iapply (wait_one hw hS hj) $$ [HS]
    · isplitr; · iexact Hrec
      iexact HS
    iintro HS
    iapply hk
    isplitr; · iexact Hrec
    isplitl [HS] <;> iassumption
  · unfold waitStep
    rw [dif_neg hb]
    exact hk

end Cert.KernelIdeal.Scan
-- ==== Proof.Ideal.Out.lean ====
module

public import proofs.«01_k».proof.Proof.Ideal.Moves
public import Idealize.ShloMosaic.Lib.Pipeline.Value

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 8 → FVec F S1024x512 .f32) (K : Fin 8 × Fin 17 → ℕ) (KR : Fin 8 → ℕ)
variable {α : Type} {P : sProp (MT nD τ sig Unit (Elt F) ℕ UU ℕ)} {Q : α → sProp (MT nD τ sig Unit (Elt F) ℕ UU ℕ)}

/-! ## The contents of the result -/

/-- The 256 rows of device `c`'s block of `x` from row `o`. -/
abbrev blkRead (c : Fin 8) (o : Nat) (h : ∀ i, (![o, 0] : Fin 2 → Nat) i + S256x512.size i ≤ S1024x512.size i) : Vec F S256x512 .f32 :=
  xM.view.readAt (Elt F) (blkR o h).toLoadRect (X c)

abbrev tri : FVec F S256x256 .bf16 := k0_pay11
abbrev zro : F .f32 := Scalar.ofBits .f32 0x00000000#32

abbrev x0 (c : Fin 8) : Vec F S256x512 .f32 := blkRead X c 0 inb_S1024x512_S256x512_0_0
abbrev x1 (c : Fin 8) : Vec F S256x512 .f32 := blkRead X c 256 inb_S1024x512_S256x512_256_0
abbrev x2 (c : Fin 8) : Vec F S256x512 .f32 := blkRead X c 512 inb_S1024x512_S256x512_512_0
abbrev x3 (c : Fin 8) : Vec F S256x512 .f32 := blkRead X c 768 inb_S1024x512_S256x512_768_0

/-- The totals of the first two blocks, which the last two start from. -/
abbrev carry2 (c : Fin 8) : FVec F S1x512 .f32 := k0_pay18 tri zro (x0 X c) (x1 X c)

/-- The four blocks of the scan of device `c`'s own rows. -/
def blkPay (c : Fin 8) : Fin 4 → FVec F S256x512 .f32
  | 0 => k0_pay14 tri zro (x0 X c)
  | 1 => k0_pay17 tri zro (x0 X c) (x1 X c)
  | 2 => k0_pay20 tri (carry2 X c) (x2 X c)
  | 3 => k0_pay21 tri (carry2 X c) (x2 X c) (x3 X c)

/-- The scan of device `c`'s own rows, its four blocks put together. -/
def scan (c : Fin 8) : (cc0_stg1_0 : Ref sig .tc).ty.Contents (Elt F) := fun i =>
  blkPay X c ⟨(i 0).val / 256, Nat.div_lt_of_lt_mul (i 0).isLt⟩
    (fun a => match a with | 0 => (⟨(i 0).val % 256, Nat.mod_lt _ (by decide)⟩ : Fin 256) | 1 => (i 1 : Fin 512))

/-- The kernel's result on device `c`: that scan with the totals of the devices before added. -/
def outAt (c : Fin 8) : (cc0_stg1_0 : Ref sig .tc).ty.Contents (Elt F) := k0_pay22 (place c) (tot X) (scan X c)

theorem read_scan (c : Fin 8) (n : Fin 4) (o : Nat) (ho : o = 256 * n.val) (h) :
    (oM.access (blkR o h)).read (Elt F) (scan X c) = blkPay X c n := by
  funext x
  have hx : (x 0).val < 256 := (x 0).isLt
  have e0 : (((oM.access (blkR o h)).emb x) 0).val = o + (x 0).val :=
    ValueKit.view_emb_slice_whole_unit_val cc0_stg1_0 ![o, 0] S256x512.size h x 0
  have e1 : ((oM.access (blkR o h)).emb x) 1 = (x 1 : Fin 512) := by
    refine Fin.ext ((ValueKit.view_emb_slice_whole_unit_val cc0_stg1_0 ![o, 0] S256x512.size h x 1).trans ?_)
    exact Nat.zero_add _
  show scan X c ((oM.access (blkR o h)).emb x) = _
  have hd : (((oM.access (blkR o h)).emb x) 0).val / 256 = n.val := by rw [e0]; omega
  have hm : (((oM.access (blkR o h)).emb x) 0).val % 256 = (x 0).val := by rw [e0]; omega
  unfold scan
  have en : (⟨(((oM.access (blkR o h)).emb x) 0).val / 256, Nat.div_lt_of_lt_mul (((oM.access (blkR o h)).emb x) 0).isLt⟩ : Fin 4) = n := Fin.ext hd
  rw [en]
  congr 1
  funext a
  fin_cases a
  · exact Fin.ext hm
  · exact e1

theorem mem_blk {o : Nat} {h} {i : (cc0_stg1_0 : Ref sig .tc).ty.Idx} : i ∈ (oM.access (blkR o h)).set ↔ o ≤ (i 0).val ∧ (i 0).val < o + 256 := by
  show i ∈ ((View.whole cc0_stg1_0).slice (blkR o h)).set ↔ _
  rw [View.set_slice_whole]
  refine Rect.mem_set_unit.trans ?_
  have h1 : (i 1).val < 512 := (i 1).isLt
  constructor
  · intro h'
    exact h' 0
  · intro h' a
    fin_cases a
    · exact h'
    · show 0 ≤ (i 1).val ∧ (i 1).val < 0 + 512
      omega

/-! ## The mask: only the totals of earlier devices count -/

theorem slt_place (c r : Fin 8) : Scalar.cmpi .slt (BitVec.ofNat 32 r.val) (place c) = 1#1 ↔ r < c := by
  revert c r; decide +kernel

/-- The totals with those of device `c` and of the devices after it put to zero. -/
def masked (c : Fin 8) (g : FVec F S8x512 .f32) : FVec F S8x512 .f32 :=
  select (cmpi .slt (iota .tc S8x512 32 [0] iota_S8x512_d0_w32) (broadcast S8x512 (place c))) g
    (broadcast S8x512 (Scalar.ofBits .f32 0x00000000#32))

/-- The column sums of `g` added to every row of `v`. -/
def addTot (g : FVec F S8x512 .f32) (v : FVec F S1024x512 .f32) : FVec F S1024x512 .f32 :=
  addf (shapeCast S1024x512 v shapeCasts_S1024x512_S1024x512)
    (broadcastTo S1024x512 (shapeCast S1x512 (multiReduction .add [0] S512 g 0x00000000#32 reduces_S8x512_S512 (by decide) rfl) shapeCasts_S512_S1x512)
      broadcasts_S1x512_S1024x512)

theorem pay22_eq (c : Fin 8) (g : FVec F S8x512 .f32) (v : FVec F S1024x512 .f32) : k0_pay22 (place c) g v = addTot (masked c g) v := rfl

theorem masked_apply (c : Fin 8) (g : FVec F S8x512 .f32) (i : S8x512.Idx) :
    masked c g i = if (i 0).val < c.val then g i else Scalar.ofBits .f32 0x00000000#32 := by
  show (if Scalar.cmpi .slt (BitVec.ofNat 32 (0 * 8 + (i 0).val)) (place c) = 1#1 then g i else _) = _
  rw [Nat.zero_mul, Nat.zero_add]
  exact if_congr (slt_place c (i 0)) rfl rfl

theorem mask_congr (c : Fin 8) (g t : TBuf F) (v : Vec F S1024x512 .f32) (h : ∀ i, (i 0).val < c.val → g i = t i) :
    k0_pay22 (place c) g v = k0_pay22 (place c) t v := by
  rw [pay22_eq, pay22_eq]
  congr 1
  funext i
  rw [masked_apply, masked_apply]
  split
  · next hi => exact h i hi
  · rfl

/-! ## The steps -/

abbrev xPts (c : Fin 8) : sProp 𝕄 := ((Dev.tc (c : Dev nD) : Thread nD τ).loc cc0_stg0_0) ↦{fullShare} (X c : (cc0_stg0_0 : Ref sig .tc).ty.Contents (Elt F))
abbrev oPts (c : Fin 8) (f : (cc0_stg1_0 : Ref sig .tc).ty.Contents (Elt F)) : sProp 𝕄 := ((Dev.tc (c : Dev nD) : Thread nD τ).loc cc0_stg1_0) ↦{fullShare} f

/-- The result's buffer with the rows before `m` done. -/
def outUpto (c : Fin 8) (m : Nat) : sProp 𝕄 :=
  iprop(∃ f : (cc0_stg1_0 : Ref sig .tc).ty.Contents (Elt F), ⌜∀ i, (i 0).val < m → f i = scan X c i⌝ ∗ oPts c f)

theorem blk_chain (c : Fin 8) (n : Fin 4) (o : Nat) (ho : o = 256 * n.val) {h} {w : Vec F S256x512 .f32 → FVec F S256x512 .f32}
    {k : Vec F S256x512 .f32 → Prog (TpuEff nD τ sig (Elt F) Λ₀ .tc) α} (hw : w (blkRead X c o h) = blkPay X c n)
    (hk : iprop(xPts X c ∗ outUpto X c (o + 256) ∗ P) ⊢ WP c (k (blkRead X c o h)) Q) :
    iprop(xPts X c ∗ outUpto X c o ∗ P) ⊢ WP c (blkStep o h w k) Q := by
  unfold blkStep outUpto
  iintro ⟨Hx, ⟨%f, %hf, Ho⟩, HP⟩
  iapply (wp_load 𝒱₀ (Dev.tc (c : Dev nD) : Thread nD τ) none Set.univ (m := xM) (S := Finset.univ) (Finset.subset_univ _)) $$ Hx
  iintro Hx
  iapply (wp_load 𝒱₀ (Dev.tc (c : Dev nD) : Thread nD τ) none Set.univ (m := oM) (S := Finset.univ) (Finset.subset_univ _)) $$ Ho
  iintro Ho
  iapply (wp_store 𝒱₀ (Dev.tc (c : Dev nD) : Thread nD τ) none Set.univ (m := oM) (r := blkR o h) (Mk := Finset.univ) (S := Finset.univ)
    (Finset.subset_univ _)) $$ Ho
  iintro Ho
  iapply hk
  isplitl [Hx]; · iexact Hx
  isplitl [Ho]
  · unfold outUpto
    iexists _
    isplitr
    rotate_left
    · iexact Ho
    · ipureintro
      intro i hi
      have e : w (xM.view.readAt (Elt F) (blkR o h).toLoadRect (X c)) = (oM.access (blkR o h)).read (Elt F) (scan X c) := by
        rw [read_scan X c n o ho h]; exact hw
      rw [e, View.write_read_eq_piecewise, View.setOn_univ]
      by_cases hm : i ∈ (oM.access (blkR o h)).set
      · exact Finset.piecewise_eq_of_mem _ _ _ hm
      · rw [Finset.piecewise_eq_of_notMem _ _ _ hm]
        exact hf i (by by_contra hlt; exact hm (mem_blk.mpr ⟨by omega, hi⟩))
  · iexact HP

theorem zz : (![0, 0] : Fin 2 → Nat) = fun _ => 0 := funext fun a => by fin_cases a <;> rfl

/-- Adding the totals of the devices before, those totals having arrived. -/
theorem add_chain (c : Fin 8) {k : PUnit.{1} → Prog (TpuEff nD τ sig (Elt F) Λ₀ .tc) α}
    (hk : iprop(recs X K KR ∗ bigSep (others c) (fun j => tokA c j) ∗ bigSep (others c) (rowKnown c X) ∗ rowPts c c qL (tot X) ∗ oPts c (outAt X c) ∗ P)
      ⊢ WP c (k ⟨⟩) Q) :
    iprop(recs X K KR ∗ bigSep (others c) (fun j => tokA c j) ∗ bigSep (others c) (rowKnown c X) ∗ rowPts c c qL (tot X) ∗ oPts c (scan X c) ∗ P)
      ⊢ WP c (addStep (place c) k) Q := by
  unfold addStep
  iintro ⟨#Hrec, HA, Hk, Hc, Ho, HP⟩
  ihave Hrow := (recs_row (X := X) c) $$ Hrec
  imod (peek c X (κ := KR c)) $$ [Hrow HA Hk Hc] with ⟨%g, %hg, Hg, Hclose⟩
  · isplitl [Hrow]; · iexact Hrow
    isplitl [HA]; · iexact HA
    isplitl [Hk] <;> iassumption
  imodintro
  iapply (fp_load (Dev.tc (c : Dev nD) : Thread nD τ) (m := tM) (S := Finset.univ) (Finset.subset_univ _)) $$ Hg
  iintro Hg
  ihave Hcl := Hclose $$ Hg
  imod Hcl with ⟨HA, Hk, Hc⟩
  imodintro
  iapply (wp_load 𝒱₀ (Dev.tc (c : Dev nD) : Thread nD τ) none Set.univ (m := oM) (S := Finset.univ) (Finset.subset_univ _)) $$ Ho
  iintro Ho
  iapply (wp_load 𝒱₀ (Dev.tc (c : Dev nD) : Thread nD τ) none Set.univ (m := oM) (S := Finset.univ) (Finset.subset_univ _)) $$ Ho
  iintro Ho
  iapply (wp_store 𝒱₀ (Dev.tc (c : Dev nD) : Thread nD τ) none Set.univ (m := oM) (r := Rect.unit (s := S1024x512) ![0, 0] S1024x512.size inb_S1024x512_S1024x512_0_0) (Mk := Finset.univ) (S := Finset.univ)
    (Finset.subset_univ _)) $$ Ho
  iintro Ho
  have e : (oM.access (Rect.unit (s := S1024x512) ![0, 0] S1024x512.size inb_S1024x512_S1024x512_0_0)).write (Elt F) (scan X c)
      (k0_pay22 (place c) (tM.view.readAt (Elt F) (Rect.unit (s := S8x512) ![0, 0] S8x512.size inb_S8x512_S8x512_0_0).toLoadRect g)
        (oM.view.readAt (Elt F) (Rect.unit (s := S1024x512) ![0, 0] S1024x512.size inb_S1024x512_S1024x512_0_0).toLoadRect (scan X c))) Finset.univ
      = outAt X c := by
    refine (Memref.write_access_unit_zero_univ (Elt F) cc0_stg1_0 zz _ _ _).trans ?_
    have e1 : tM.view.readAt (Elt F) (Rect.unit (s := S8x512) ![0, 0] S8x512.size inb_S8x512_S8x512_0_0).toLoadRect g = g :=
      Memref.readAt_unit_zero (Elt F) cc0_scratch0 zz _ g
    have e2 : oM.view.readAt (Elt F) (Rect.unit (s := S1024x512) ![0, 0] S1024x512.size inb_S1024x512_S1024x512_0_0).toLoadRect (scan X c) = scan X c :=
      Memref.readAt_unit_zero (Elt F) cc0_stg1_0 zz _ _
    rw [e1, e2]
    exact mask_congr c g (tot X) (scan X c) hg
  ihave Ho := (show (oPts c _ : sProp 𝕄) ⊢ oPts c (outAt X c) from Entails.of_eq (congrArg (fun f => (oPts c f : sProp 𝕄)) e)) $$ Ho
  iapply hk
  isplitr; · iexact Hrec
  isplitl [HA]; · iexact HA
  isplitl [Hk]; · iexact Hk
  isplitl [Hc]; · iexact Hc
  isplitl [Ho] <;> iassumption

end Cert.KernelIdeal.Scan
-- ==== Proof.Ideal.Parts.lean ====
module

public import proofs.«01_k».proof.Proof.Ideal.Out

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 8 → FVec F S1024x512 .f32) (K : Fin 8 × Fin 17 → ℕ) (KR : Fin 8 → ℕ)
variable {α : Type} {P : sProp (MT nD τ sig Unit (Elt F) ℕ UU ℕ)} {Q : α → sProp (MT nD τ sig Unit (Elt F) ℕ UU ℕ)}

/-! ## Which steps a device takes -/

/-- The devices from `n` on, other than `c`. -/
abbrev pendS (c : Fin 8) (n : Nat) : Finset (Fin 8) := (others c).filter (fun j => n ≤ j.val)
/-- The totals still to wait for before those of devices before `c` have all arrived, and after that. -/
abbrev pend₁ (c : Fin 8) (n : Nat) : Finset (Fin 8) := (others c).filter (fun j => c < j ∨ n ≤ j.val)
abbrev pend₂ (c : Fin 8) (n : Nat) : Finset (Fin 8) := (others c).filter (fun j => c < j ∧ n ≤ j.val)

def sigCond : Fin 8 → Dev nD → BitVec 1
  | 0 => k0_cond1 | 1 => k0_cond2 | 2 => k0_cond3 | 3 => k0_cond4 | 4 => k0_cond5 | 5 => k0_cond6 | 6 => k0_cond7 | 7 => k0_cond8
def sendCond : Fin 8 → Dev nD → BitVec 1
  | 0 => k0_cond17 | 1 => k0_cond18 | 2 => k0_cond19 | 3 => k0_cond20 | 4 => k0_cond21 | 5 => k0_cond22 | 6 => k0_cond23 | 7 => k0_cond24
abbrev word (n : Fin 8) : BitVec 32 := BitVec.ofNat 32 n.val

theorem sig_when : ∀ n c : Fin 8, (sigCond n c = 1#1 ∧ n ≠ c ∧ n ∈ pendS c n.val ∧ pendS c (n.val + 1) = (pendS c n.val).erase n)
    ∨ (sigCond n c ≠ 1#1 ∧ pendS c (n.val + 1) = pendS c n.val) := by decide +kernel

theorem row_when : ∀ n c : Fin 8, (isEq (place c) (word n) = 1#1 ∧ n = c ∧ ¬ c.val < n.val ∧ c.val < n.val + 1)
    ∨ (isEq (place c) (word n) ≠ 1#1 ∧ (c.val < n.val ↔ c.val < n.val + 1)) := by decide +kernel

/-- What is still to be sent before step `n`. -/
abbrev toSend (c : Fin 8) (n : Nat) : Finset (Fin 8) := if c.val < n then ∅ else others c

theorem send_when : ∀ n c : Fin 8, (sendCond n c = 1#1 ∧ n = c ∧ toSend c n.val = others c ∧ toSend c (n.val + 1) = ∅)
    ∨ (sendCond n c ≠ 1#1 ∧ toSend c (n.val + 1) = toSend c n.val) := by decide +kernel

theorem gt_when : ∀ n c : Fin 8, (isGt (place c) (word n) = 1#1 ∧ n ∈ pend₁ c n.val ∧ pend₁ c n.val ⊆ others c ∧ pend₁ c (n.val + 1) = (pend₁ c n.val).erase n)
    ∨ (isGt (place c) (word n) ≠ 1#1 ∧ pend₁ c (n.val + 1) = pend₁ c n.val) := by decide +kernel
theorem lt_when : ∀ n c : Fin 8, (isLt (place c) (word n) = 1#1 ∧ n ∈ pend₂ c n.val ∧ pend₂ c n.val ⊆ others c ∧ pend₂ c (n.val + 1) = (pend₂ c n.val).erase n)
    ∨ (isLt (place c) (word n) ≠ 1#1 ∧ pend₂ c (n.val + 1) = pend₂ c n.val) := by decide +kernel
theorem ne_when : ∀ n c : Fin 8, (isNe (place c) (word n) = 1#1 ∧ n ∈ pendS c n.val ∧ pendS c n.val ⊆ others c ∧ pendS c (n.val + 1) = (pendS c n.val).erase n)
    ∨ (isNe (place c) (word n) ≠ 1#1 ∧ pendS c (n.val + 1) = pendS c n.val) := by decide +kernel

theorem pendS_zero (c : Fin 8) : pendS c 0 = others c := by revert c; decide
theorem pendS_all (c : Fin 8) : pendS c 8 = ∅ := by revert c; decide
theorem pend₁_zero (c : Fin 8) : pend₁ c 0 = others c := by revert c; decide
theorem pend₁_all (c : Fin 8) : pend₁ c 8 = pend₂ c 0 := by revert c; decide
theorem pend₂_all (c : Fin 8) : pend₂ c 8 = ∅ := by revert c; decide
theorem toSend_zero (c : Fin 8) : toSend c 0 = others c := if_neg (Nat.not_lt_zero _)
theorem toSend_all (c : Fin 8) : toSend c 8 = ∅ := if_pos c.isLt
theorem earlier (c : Fin 8) : others c \ pend₂ c 0 = (others c).filter (· < c) := by revert c; decide

/-! ## The parts of the body -/

theorem ret_chain (c : Fin 8) {a : α} (hk : P ⊢ Q a) : P ⊢ WP c (.ret a) Q := hk.trans fupd_intro

/-- The load of the device's whole block of `x`. -/
theorem load_x (c : Fin 8) {k : Vec F S1024x512 .f32 → Prog (TpuEff nD τ sig (Elt F) Λ₀ .tc) α} {R : sProp 𝕄}
    (hk : iprop(recs X K KR ∗ R ∗ xPts X c ∗ P) ⊢ WP c (k (X c)) Q) :
    iprop(recs X K KR ∗ R ∗ xPts X c ∗ P) ⊢ WP c
      (.op (.load xM (Rect.unit (s := S1024x512) ![0, 0] S1024x512.size inb_S1024x512_S1024x512_0_0).toLoadRect (View.loadsAt_vmem h_S1024x512)) k) Q := by
  iintro ⟨Hrec, HS, Hx, HP⟩
  iapply (wp_load 𝒱₀ (Dev.tc (c : Dev nD) : Thread nD τ) none Set.univ (m := xM) (S := Finset.univ) (Finset.subset_univ _)) $$ Hx
  iintro Hx
  have e : xM.view.readAt (Elt F) (Rect.unit (s := S1024x512) ![0, 0] S1024x512.size inb_S1024x512_S1024x512_0_0).toLoadRect (X c) = X c :=
    Memref.readAt_unit_zero (Elt F) cc0_stg0_0 zz _ _
  rw [e]
  iapply hk
  isplitl [Hrec]; · iexact Hrec
  isplitl [HS]; · iexact HS
  isplitl [Hx] <;> iassumption

set_option maxHeartbeats 2000000 in
theorem part17_wp (c : Fin 8) {Q} (hk : iprop(recs X K KR ∗ sigSt (F := F) c ∅ ∗ xPts X c ∗ P)
      ⊢ Q ⟨(c : Dev nD), place c, SemArray.scalar (sig.barrier 0 rfl), k0_pay1 (X c)⟩) :
    iprop(recs X K KR ∗ sigSt (F := F) c (others c) ∗ xPts X c ∗ P) ⊢ WP c
      (k0_part17 (F := F) xM (Memref.isWhole_whole _) oM (Memref.isWhole_whole _) tM (Memref.isWhole_whole _) cc0_scratch1 cc0_scratch2) Q := by
  rw [part17_steps, ← pendS_zero c]
  rw [← pendS_all c] at hk
  refine BIBase.Entails.trans ?_ (Entails.of_eq (wp_deviceId 𝒱₀ (Dev.tc (c : Dev nD) : Thread nD τ) none Set.univ).symm)
  refine sig_chain X K KR c 0 (b := k0_cond1 (c : Dev nD)) (S := pendS c 0) (S' := pendS c 1) (sig_when 0 c) ?_
  refine sig_chain X K KR c 1 (b := k0_cond2 (c : Dev nD)) (S := pendS c 1) (S' := pendS c 2) (sig_when 1 c) ?_
  refine sig_chain X K KR c 2 (b := k0_cond3 (c : Dev nD)) (S := pendS c 2) (S' := pendS c 3) (sig_when 2 c) ?_
  refine sig_chain X K KR c 3 (b := k0_cond4 (c : Dev nD)) (S := pendS c 3) (S' := pendS c 4) (sig_when 3 c) ?_
  refine sig_chain X K KR c 4 (b := k0_cond5 (c : Dev nD)) (S := pendS c 4) (S' := pendS c 5) (sig_when 4 c) ?_
  refine sig_chain X K KR c 5 (b := k0_cond6 (c : Dev nD)) (S := pendS c 5) (S' := pendS c 6) (sig_when 5 c) ?_
  refine sig_chain X K KR c 6 (b := k0_cond7 (c : Dev nD)) (S := pendS c 6) (S' := pendS c 7) (sig_when 6 c) ?_
  refine sig_chain X K KR c 7 (b := k0_cond8 (c : Dev nD)) (S := pendS c 7) (S' := pendS c 8) (sig_when 7 c) ?_
  exact load_x X K KR c (ret_chain c hk)

theorem part18_wp (c : Fin 8) {Q} (hk : iprop(rowPts c c fullShare (tot X) ∗ P) ⊢ Q ⟨tri, zro⟩) :
    iprop((∃ f, rowPts (F := F) c c fullShare f) ∗ P) ⊢ WP c
      (k0_part18 (F := F) xM (Memref.isWhole_whole _) oM (Memref.isWhole_whole _) tM (Memref.isWhole_whole _) cc0_scratch1 cc0_scratch2 (place c) (k0_pay1 (X c))) Q := by
  rw [part18_steps]
  have e0 : iprop(∃ f, rowPts (F := F) c c fullShare f) = ownRow X c (c.val < 0) := (if_neg (Nat.not_lt_zero _)).symm
  have e8 : rowPts c c fullShare (tot X) = ownRow X c (c.val < 8) := (if_pos c.isLt).symm
  rw [e0]
  rw [e8] at hk
  rw [show k0_pay3 (k0_pay1 (X c)) = rowTot X c from rfl]
  refine row_chain X c 0 (p := c.val < 0) (p' := c.val < 1) (row_when 0 c) ?_
  refine row_chain X c 1 (p := c.val < 1) (p' := c.val < 2) (row_when 1 c) ?_
  refine row_chain X c 2 (p := c.val < 2) (p' := c.val < 3) (row_when 2 c) ?_
  refine row_chain X c 3 (p := c.val < 3) (p' := c.val < 4) (row_when 3 c) ?_
  refine row_chain X c 4 (p := c.val < 4) (p' := c.val < 5) (row_when 4 c) ?_
  refine row_chain X c 5 (p := c.val < 5) (p' := c.val < 6) (row_when 5 c) ?_
  refine row_chain X c 6 (p := c.val < 6) (p' := c.val < 7) (row_when 6 c) ?_
  refine row_chain X c 7 (p := c.val < 7) (p' := c.val < 8) (row_when 7 c) ?_
  exact ret_chain c hk

/-- The wait for the barrier: every other device's half of this device's row comes with it. -/
theorem bar_wait (c : Fin 8) {k : PUnit.{1} → Prog (TpuEff nD τ sig (Elt F) Λ₀ .tc) α} (S : Finset (Fin 8))
    (hk : iprop(recs X K KR ∗ (∃ W, owes (Dev.tc (c : Dev nD) : Thread nD τ) (sendO c S) W) ∗ bigSep (others c) (fun d => barPay (F := F) c d)
      ∗ atPos ER (barCell c) 1 ∅ 0 ∗ P) ⊢ WP c (k ⟨⟩) Q) :
    iprop(recs X K KR ∗ (∃ W, owes (Dev.tc (c : Dev nD) : Thread nD τ) (sendO c S) W) ∗ levAts L lv ∗ cred (tallyAt (barCell c) () 7)
      ∗ atPos ER (barCell c) 0 ∅ 0 ∗ P) ⊢ WP c (.op (.semWait barS 7) k) Q := by
  iintro ⟨#Hrec, ⟨%W, HO⟩, Hlev, Hc, Hat, HP⟩
  ihave Hb := (recs_bar (X := X) c) $$ Hrec
  icases Hb with ⟨Hinv, -⟩
  iapply (Rounds.wp_wait_rest_token 𝒱₀ ER (Rd X) (Dev.tc (c : Dev nD) : Thread nD τ) none (κ := K (c, 0))
      (wpE_semWait_eq 𝒱₀ (Dev.tc (c : Dev nD) : Thread nD τ) none Set.univ) (Set.mem_univ _) () (O := sendO c S) (W := W) (R := 0) (m := 0) (T := ∅)
      (by rw [Nat.zero_add, expect_bar])) $$ [Hinv Hc HO Hlev Hat]
  · isplitl [Hinv]; · iexact Hinv
    isplitl [Hc]; · iexact Hc
    isplitl [HO]; · iexact HO
    isplitl [Hlev]; · iapply (mayWait_bar c S); iexact Hlev
    iexact Hat
  iintro ⟨HO, Hat, -, Hpay⟩
  ihave Hpay := (Entails.of_eq (rest_bar X c)) $$ Hpay
  iapply hk
  isplitr; · iexact Hrec
  isplitl [HO]; · iexists _; iexact HO
  isplitl [Hpay]; · iexact Hpay
  isplitl [Hat] <;> iassumption

/-- What a device's copies take besides the row: their duties. -/
abbrev sendToks (c : Fin 8) : sProp 𝕄 := bigSep (others c) fun t => iprop(dutyTok ER (sendCell c t) 0 t ∗ dutyTok ER (recvCell t c) 0 c)

/-- With its own row stored and the barrier passed, a device has what its copies take. -/
theorem sendSt_intro (c : Fin 8) :
    iprop((∃ W, owes (Dev.tc (c : Dev nD) : Thread nD τ) (sendO c (others c)) W) ∗ bigSep (others c) (fun d => barPay (F := F) c d)
        ∗ sendToks c ∗ rowPts c c fullShare (tot X))
      ⊢ iprop(sendSt X c (others c) ∗ rowPts c c qL (tot X)) := by
  iintro ⟨HO, Hb, Ht, Hrow⟩
  ihave Hrow := (row_split c c (tot X)) $$ Hrow
  icases Hrow with ⟨Hl, Hr⟩
  ihave Hr := (show rowPts c c qR (tot X) ⊢ (bigSep (others c) (fun t => sendPay X c t) : sProp 𝕄) from
    Entails.of_eq (Transfers.pointsTo_deal (others c) (others_nonempty c) qR)) $$ Hr
  isplitr [Hl]
  · unfold sendSt
    isplitl [HO]; · iexact HO
    isplitl
    · iapply (show iprop(bigSep (others c) (fun d => barPay (F := F) c d) ∗ bigSep (others c) (fun t => sendPay X c t) ∗ sendToks c)
        ⊢ (bigSep (others c) (fun t => iprop(barPay (F := F) c t ∗ sendPay X c t ∗ dutyTok ER (sendCell c t) 0 t ∗ dutyTok ER (recvCell t c) 0 c)) : sProp 𝕄) from
        Entails.of_eq (by rw [family_sep (others c) (fun t => barPay (F := F) c t), family_sep (others c) (fun t => sendPay X c t)]))
      isplitl [Hb]; · iexact Hb
      isplitl [Hr] <;> iassumption
    · rw [Finset.sdiff_self, bigSep_empty]; iempintro
  · iexact Hl

theorem part19_wp (c : Fin 8) {Q} (hk : iprop(recs X K KR ∗ sendSt X c (toSend c 4) ∗ xPts X c ∗ outUpto X c 512 ∗ rowPts c c qL (tot X)
        ∗ atPos ER (barCell c) 1 ∅ 0 ∗ P) ⊢ Q ⟨carry2 X c, Scalar.cmpi .eq (place c) 4#32⟩) :
    iprop(recs X K KR ∗ (∃ W, owes (Dev.tc (c : Dev nD) : Thread nD τ) (sendO c (others c)) W) ∗ xPts X c ∗ outUpto X c 0
        ∗ rowPts c c fullShare (tot X) ∗ (levAts L lv ∗ cred (tallyAt (barCell c) () 7) ∗ atPos ER (barCell c) 0 ∅ 0) ∗ sendToks c ∗ P) ⊢ WP c
      (k0_part19 (F := F) xM (Memref.isWhole_whole _) oM (Memref.isWhole_whole _) tM (Memref.isWhole_whole _) cc0_scratch1 cc0_scratch2
        (c : Dev nD) (place c) (SemArray.scalar (sig.barrier 0 rfl)) tri zro) Q := by
  rw [part19_steps]
  refine BIBase.Entails.trans (Q := iprop(xPts X c ∗ outUpto X c 0 ∗ (recs X K KR ∗ (∃ W, owes (Dev.tc (c : Dev nD) : Thread nD τ) (sendO c (others c)) W)
    ∗ rowPts c c fullShare (tot X) ∗ (levAts L lv ∗ cred (tallyAt (barCell c) () 7) ∗ atPos ER (barCell c) 0 ∅ 0) ∗ sendToks c ∗ P))) ?_ ?_
  · iintro ⟨Hr, HO, Hx, Ho, HP⟩
    isplitl [Hx]; · iexact Hx
    isplitl [Ho]; · iexact Ho
    isplitl [Hr]; · iexact Hr
    isplitl [HO] <;> iassumption
  refine blk_chain X c 0 0 rfl rfl ?_
  refine blk_chain X c 1 256 rfl rfl ?_
  refine BIBase.Entails.trans (Q := iprop(recs X K KR ∗ (∃ W, owes (Dev.tc (c : Dev nD) : Thread nD τ) (sendO c (others c)) W) ∗ levAts L lv ∗ cred (tallyAt (barCell c) () 7)
      ∗ atPos ER (barCell c) 0 ∅ 0 ∗ (xPts X c ∗ outUpto X c 512 ∗ rowPts c c fullShare (tot X) ∗ sendToks c ∗ P))) ?_ ?_
  · iintro ⟨Hx, Ho, Hr, HO, Hrow, ⟨Hl, Hc, Ha⟩, Ht, HP⟩
    isplitl [Hr]; · iexact Hr
    isplitl [HO]; · iexact HO
    isplitl [Hl]; · iexact Hl
    isplitl [Hc]; · iexact Hc
    isplitl [Ha]; · iexact Ha
    isplitl [Hx]; · iexact Hx
    isplitl [Ho]; · iexact Ho
    isplitl [Hrow]; · iexact Hrow
    isplitl [Ht] <;> iassumption
  refine bar_wait X K KR c (others c) ?_
  refine BIBase.Entails.trans (Q := iprop(recs X K KR ∗ sendSt X c (toSend c 0) ∗ (xPts X c ∗ outUpto X c 512 ∗ rowPts c c qL (tot X) ∗ atPos ER (barCell c) 1 ∅ 0 ∗ P))) ?_ ?_
  · rw [toSend_zero]
    iintro ⟨Hr, HO, Hb, Ha, Hx, Ho, Hrow, Ht, HP⟩
    ihave H := (sendSt_intro X c) $$ [HO Hb Ht Hrow]
    · isplitl [HO]; · iexact HO
      isplitl [Hb]; · iexact Hb
      isplitl [Ht] <;> iassumption
    icases H with ⟨HS, Hl⟩
    isplitl [Hr]; · iexact Hr
    isplitl [HS]; · iexact HS
    isplitl [Hx]; · iexact Hx
    isplitl [Ho]; · iexact Ho
    isplitl [Hl]; · iexact Hl
    isplitl [Ha] <;> iassumption
  refine send_chain X K KR c 0 (send_when 0 c) ?_
  refine send_chain X K KR c 1 (send_when 1 c) ?_
  refine send_chain X K KR c 2 (send_when 2 c) ?_
  refine send_chain X K KR c 3 (send_when 3 c) ?_
  exact ret_chain c hk

/-- The credits and positions of a device's waits for the totals of the others. -/
abbrev recvToks (c : Fin 8) : sProp 𝕄 := bigSep (others c) fun j => iprop(cred (tallyAt (recvCell c j) () N) ∗ atPos ER (recvCell c j) 0 ∅ 0)
abbrev sentCreds (c : Fin 8) : sProp 𝕄 := bigSep (others c) fun t => cred (tallyAt (sendCell c t) () N)

theorem sendSt_done (c : Fin 8) : sendSt X c ∅ ⊢ iprop((∃ W, owes (Dev.tc (c : Dev nD) : Thread nD τ) 0 W) ∗ sentCreds (F := F) c) := by
  unfold sendSt
  rw [Finset.sdiff_empty, show sendO c ∅ = 0 from Finset.sum_empty]
  iintro ⟨HO, -, Hc⟩
  isplitl [HO] <;> iassumption

theorem waitSt_intro (c : Fin 8) (s : Fin 8 → DmaSem sig) (pay : Fin 8 → sProp 𝕄) :
    iprop((∃ W, owes (Dev.tc (c : Dev nD) : Thread nD τ) 0 W)
        ∗ bigSep (others c) (fun j => iprop(cred (tallyAt ((Dev.tc (c : Dev nD) : Thread nD τ), .dma (s j)) () N) ∗ atPos ER ((Dev.tc (c : Dev nD) : Thread nD τ), .dma (s j)) 0 ∅ 0)))
      ⊢ waitSt c s pay (others c) := by
  unfold waitSt
  rw [Finset.sdiff_self, bigSep_empty]
  iintro ⟨HO, Hf⟩
  isplitl [HO]; · iexact HO
  isplitl [Hf]; · iexact Hf
  iempintro

theorem waitSt_done (c : Fin 8) (s : Fin 8 → DmaSem sig) (pay : Fin 8 → sProp 𝕄) :
    waitSt c s pay ∅ ⊢ iprop((∃ W, owes (Dev.tc (c : Dev nD) : Thread nD τ) 0 W) ∗ bigSep (others c) pay
        ∗ bigSep (others c) (fun j => atPos ER ((Dev.tc (c : Dev nD) : Thread nD τ), .dma (s j)) 1 ∅ 0)) := by
  unfold waitSt
  rw [Finset.sdiff_empty, family_sep (others c) pay]
  iintro ⟨HO, -, Hf⟩
  isplitl [HO] <;> iassumption

theorem part20_wp (c : Fin 8) {v94 : BitVec 1} {Q} (hk : iprop(recs X K KR ∗ waitSt c recvS (recvPay X c) (pend₁ c 1) ∗ xPts X c ∗ outUpto X c 1024 ∗ sentCreds c ∗ P)
      ⊢ Q ⟨Scalar.extui (Scalar.cmpi .sgt (place c) 1#32), 0#32⟩) :
    iprop(recs X K KR ∗ sendSt X c (toSend c 4) ∗ xPts X c ∗ outUpto X c 512 ∗ recvToks c ∗ P) ⊢ WP c
      (k0_part20 (F := F) xM (Memref.isWhole_whole _) oM (Memref.isWhole_whole _) tM (Memref.isWhole_whole _) cc0_scratch1 cc0_scratch2
        (c : Dev nD) (place c) tri (carry2 X c) v94) Q := by
  rw [part20_steps]
  refine send_chain X K KR c 4 (send_when 4 c) ?_
  refine send_chain X K KR c 5 (send_when 5 c) ?_
  refine send_chain X K KR c 6 (send_when 6 c) ?_
  refine send_chain X K KR c 7 (send_when 7 c) ?_
  refine BIBase.Entails.trans (Q := iprop(xPts X c ∗ outUpto X c 512 ∗ (recs X K KR ∗ waitSt c recvS (recvPay X c) (pend₁ c 0) ∗ sentCreds c ∗ P))) ?_ ?_
  · rw [show (((7 : Fin 8).val) + 1) = 8 from rfl, toSend_all, pend₁_zero]
    iintro ⟨Hr, HS, Hx, Ho, Ht, HP⟩
    ihave HS := (sendSt_done X c) $$ HS
    icases HS with ⟨HO, Hc⟩
    isplitl [Hx]; · iexact Hx
    isplitl [Ho]; · iexact Ho
    isplitl [Hr]; · iexact Hr
    isplitl [HO Ht]
    · iapply (waitSt_intro c recvS (recvPay X c))
      isplitl [HO] <;> iassumption
    isplitl [Hc] <;> iassumption
  refine blk_chain X c 2 512 rfl rfl ?_
  refine blk_chain X c 3 768 rfl rfl ?_
  refine BIBase.Entails.trans (Q := iprop(recs X K KR ∗ waitSt c recvS (recvPay X c) (pend₁ c 0) ∗ (xPts X c ∗ outUpto X c 1024 ∗ sentCreds c ∗ P))) ?_ ?_
  · iintro ⟨Hx, Ho, Hr, HW, Hc, HP⟩
    isplitl [Hr]; · iexact Hr
    isplitl [HW]; · iexact HW
    isplitl [Hx]; · iexact Hx
    isplitl [Ho]; · iexact Ho
    isplitl [Hc] <;> iassumption
  refine wait_chain 0 0 (recv_waits X K KR c) (gt_when 0 c) ?_
  exact ret_chain c hk

/-- The result's buffer once all four blocks are done. -/
theorem outUpto_all (c : Fin 8) : outUpto X c 1024 ⊢ oPts c (scan X c) := by
  unfold outUpto
  iintro ⟨%f, %h, Ho⟩
  have e : f = scan X c := funext fun i => h i (i 0).isLt
  subst e
  iexact Ho

/-- Between the two rounds of waits: the totals of the devices before, as the owner knows them. -/
theorem waitSt_known (c : Fin 8) :
    waitSt c recvS (recvPay X c) (pend₂ c 0)
      = iprop((∃ W, owes (Dev.tc (c : Dev nD) : Thread nD τ) 0 W)
        ∗ bigSep (pend₂ c 0) (fun j => iprop(cred (tallyAt (recvCell c j) () N) ∗ atPos ER (recvCell c j) 0 ∅ 0))
        ∗ bigSep (others c) (rowKnown c X) ∗ bigSep ((others c).filter (· < c)) fun j => atPos ER (recvCell c j) 1 ∅ 0) := by
  unfold waitSt
  rw [earlier, family_sep _ (recvPay X c)]
  have e : bigSep ((others c).filter (· < c)) (recvPay X c) = (bigSep (others c) (rowKnown c X) : sProp 𝕄) := bigSep_filter (others c) (· < c) _
  rw [e]

theorem part21_wp (c : Fin 8) {Q} (hk : iprop(recs X K KR ∗ waitSt c recvS (recvPay X c) (pend₂ c 0) ∗ oPts c (outAt X c) ∗ rowPts c c qL (tot X)
        ∗ bigSep (others c) (fun j => tokA c j) ∗ P) ⊢ Q ⟨⟩) :
    iprop(recs X K KR ∗ waitSt c recvS (recvPay X c) (pend₁ c 1) ∗ outUpto X c 1024 ∗ rowPts c c qL (tot X)
        ∗ bigSep (others c) (fun j => tokA c j) ∗ P) ⊢ WP c
      (k0_part21 (F := F) xM (Memref.isWhole_whole _) oM (Memref.isWhole_whole _) tM (Memref.isWhole_whole _) cc0_scratch1 cc0_scratch2
        (place c) (Scalar.extui (Scalar.cmpi .sgt (place c) 1#32)) 0#32) Q := by
  rw [part21_steps]
  refine wait_chain 1 1 (recv_waits X K KR c) (gt_when 1 c) ?_
  refine wait_chain 2 2 (recv_waits X K KR c) (gt_when 2 c) ?_
  refine wait_chain 3 3 (recv_waits X K KR c) (gt_when 3 c) ?_
  refine wait_chain 4 4 (recv_waits X K KR c) (gt_when 4 c) ?_
  refine wait_chain 5 5 (recv_waits X K KR c) (gt_when 5 c) ?_
  refine wait_chain 6 6 (recv_waits X K KR c) (gt_when 6 c) ?_
  refine wait_chain 7 7 (recv_waits X K KR c) (gt_when 7 c) ?_
  rw [show (((7 : Fin 8).val) + 1) = 8 from rfl, pend₁_all]
  rw [waitSt_known] at hk ⊢
  refine BIBase.Entails.trans (Q := iprop(recs X K KR ∗ bigSep (others c) (fun j => tokA c j) ∗ bigSep (others c) (rowKnown c X) ∗ rowPts c c qL (tot X) ∗ oPts c (scan X c)
    ∗ ((∃ W, owes (Dev.tc (c : Dev nD) : Thread nD τ) 0 W)
        ∗ bigSep (pend₂ c 0) (fun j => iprop(cred (tallyAt (recvCell c j) () N) ∗ atPos ER (recvCell c j) 0 ∅ 0))
        ∗ (bigSep ((others c).filter (· < c)) fun j => atPos ER (recvCell c j) 1 ∅ 0) ∗ P))) ?_ ?_
  · iintro ⟨Hr, ⟨HO, Hp, Hk, Hd⟩, Ho, Hl, HA, HP⟩
    ihave Ho := (outUpto_all X c) $$ Ho
    isplitl [Hr]; · iexact Hr
    isplitl [HA]; · iexact HA
    isplitl [Hk]; · iexact Hk
    isplitl [Hl]; · iexact Hl
    isplitl [Ho]; · iexact Ho
    isplitl [HO]; · iexact HO
    isplitl [Hp]; · iexact Hp
    isplitl [Hd] <;> iassumption
  refine add_chain X K KR c ?_
  refine ret_chain c (BIBase.Entails.trans ?_ hk)
  iintro ⟨Hr, HA, Hk, Hl, Ho, HO, Hp, Hd, HP⟩
  isplitl [Hr]; · iexact Hr
  isplitl [HO Hp Hk Hd]
  · isplitl [HO]; · iexact HO
    isplitl [Hp]; · iexact Hp
    isplitl [Hk] <;> iassumption
  isplitl [Ho]; · iexact Ho
  isplitl [Hl]; · iexact Hl
  isplitl [HA] <;> iassumption

abbrev sendAts (c : Fin 8) : sProp 𝕄 := bigSep (others c) fun t => atPos ER (sendCell c t) 0 ∅ 0

theorem part22_wp (c : Fin 8) {Q} (hk : iprop(recs X K KR ∗ waitSt c sendS (sendPay X c) (pendS c 2) ∗ bigSep (others c) (recvPay X c)
        ∗ bigSep (others c) (fun j => atPos ER (recvCell c j) 1 ∅ 0) ∗ P) ⊢ Q ⟨⟩) :
    iprop(recs X K KR ∗ waitSt c recvS (recvPay X c) (pend₂ c 0) ∗ sentCreds c ∗ sendAts c ∗ P) ⊢ WP c
      (k0_part22 (F := F) xM (Memref.isWhole_whole _) oM (Memref.isWhole_whole _) tM (Memref.isWhole_whole _) cc0_scratch1 cc0_scratch2 (place c)) Q := by
  rw [part22_steps]
  refine wait_chain 0 0 (recv_waits X K KR c) (lt_when 0 c) ?_
  refine wait_chain 1 1 (recv_waits X K KR c) (lt_when 1 c) ?_
  refine wait_chain 2 2 (recv_waits X K KR c) (lt_when 2 c) ?_
  refine wait_chain 3 3 (recv_waits X K KR c) (lt_when 3 c) ?_
  refine wait_chain 4 4 (recv_waits X K KR c) (lt_when 4 c) ?_
  refine wait_chain 5 5 (recv_waits X K KR c) (lt_when 5 c) ?_
  refine wait_chain 6 6 (recv_waits X K KR c) (lt_when 6 c) ?_
  refine wait_chain 7 7 (recv_waits X K KR c) (lt_when 7 c) ?_
  refine BIBase.Entails.trans (Q := iprop(recs X K KR ∗ waitSt c sendS (sendPay X c) (pendS c 0) ∗ (bigSep (others c) (recvPay X c)
        ∗ bigSep (others c) (fun j => atPos ER (recvCell c j) 1 ∅ 0) ∗ P))) ?_ ?_
  · rw [show (((7 : Fin 8).val) + 1) = 8 from rfl, pend₂_all, pendS_zero]
    iintro ⟨Hr, HW, Hc, Ha, HP⟩
    ihave HW := (waitSt_done c recvS (recvPay X c)) $$ HW
    icases HW with ⟨HO, Hp, Hd⟩
    isplitl [Hr]; · iexact Hr
    isplitl [HO Hc Ha]
    · iapply (waitSt_intro c sendS (sendPay X c))
      isplitl [HO]; · iexact HO
      iapply (Entails.of_eq (family_sep (others c) (fun t => cred (tallyAt (sendCell c t) () N)) (fun t => atPos ER (sendCell c t) 0 ∅ 0)).symm)
      isplitl [Hc] <;> iassumption
    isplitl [Hp]; · iexact Hp
    isplitl [Hd] <;> iassumption
  refine wait_chain 0 0 (send_waits X K KR c) (ne_when 0 c) ?_
  refine wait_chain 1 0 (send_waits X K KR c) (ne_when 1 c) ?_
  exact ret_chain c hk

/-- The waits at the end of the body. -/
theorem last_wp (c : Fin 8) {Q} (hk : iprop(recs X K KR ∗ waitSt c sendS (sendPay X c) ∅ ∗ P) ⊢ (iprop(|={Set.univ}=> Q ⟨⟩) : sProp 𝕄)) :
    iprop(recs X K KR ∗ waitSt c sendS (sendPay X c) (pendS c 2) ∗ P) ⊢ WP c
      (waitStep (isNe (place c) 2#32) (sendS 2) 0 fun _ => waitStep (isNe (place c) 3#32) (sendS 3) 0 fun _ =>
        waitStep (isNe (place c) 4#32) (sendS 4) 0 fun _ => waitStep (isNe (place c) 5#32) (sendS 5) 0 fun _ =>
        waitStep (isNe (place c) 6#32) (sendS 6) 0 fun _ => waitStep (isNe (place c) 7#32) (sendS 7) 0 .ret) Q := by
  rw [← pendS_all c] at hk
  refine wait_chain 2 0 (send_waits X K KR c) (ne_when 2 c) ?_
  refine wait_chain 3 0 (send_waits X K KR c) (ne_when 3 c) ?_
  refine wait_chain 4 0 (send_waits X K KR c) (ne_when 4 c) ?_
  refine wait_chain 5 0 (send_waits X K KR c) (ne_when 5 c) ?_
  refine wait_chain 6 0 (send_waits X K KR c) (ne_when 6 c) ?_
  refine wait_chain 7 0 (send_waits X K KR c) (ne_when 7 c) ?_
  exact hk

end Cert.KernelIdeal.Scan
-- ==== Proof.Ideal.Body.lean ====
module

public import proofs.«01_k».proof.Proof.Ideal.Parts

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 8 → FVec F S1024x512 .f32) (K : Fin 8 × Fin 17 → ℕ) (KR : Fin 8 → ℕ)
variable {α : Type} {P : sProp (MT nD τ sig Unit (Elt F) ℕ UU ℕ)} {Q : α → sProp (MT nD τ sig Unit (Elt F) ℕ UU ℕ)}

/-! ## Before and after -/

/-- What the launch gives device `c` besides its buffers and the shared records: its positions, the duties it pays and
    the credits of its waits. -/
def Start (c : Fin 8) : sProp 𝕄 :=
  iprop((atPos ER (barCell c) 0 ∅ 0 ∗ atPos ER (sendCell c c) 0 ∅ 0 ∗ atPos ER (recvCell c c) 0 ∅ 0)
    ∗ (levAts L lv ∗ cred (tallyAt (barCell c) () 7))
    ∗ (bigSep (others c) fun t => dutyTok ER (barCell t) 0 c) ∗ sendToks c ∗ sendAts c ∗ recvToks c)

/-- The totals' buffer before the kernel: the device's own row, and for every other row a token kept and what the signal to
    that row's device hands over. -/
theorem arm_all (c : Fin 8) :
    iprop(recs X K KR ∗ ∃ f, (tLoc c ↦{fullShare} f))
      ⊢ (iprop(|={Set.univ}=> ((∃ f, rowPts (F := F) c c fullShare f) ∗ bigSep (others c) (fun j => tokA c j) ∗ bigSep (others c) (fun t => barPay (F := F) t c))) : sProp 𝕄) := by
  iintro ⟨Hrec, ⟨%f, Hf⟩⟩
  ihave HI := (recs_row (X := X) c) $$ Hrec
  ihave Hf := (show (tLoc c ↦{fullShare} f : sProp 𝕄) ⊢ iprop(rowPts c c fullShare f ∗ bigSep (others c) fun j => iprop(∃ f, rowPts (F := F) c j fullShare f)) from by
    rw [rows_eq, family_univ c]
    refine BIClass.sep_mono .rfl (family_mono fun j _ => ?_)
    iintro H; iexists f; iexact H) $$ Hf
  icases Hf with ⟨Hc, Ho⟩
  imod (arm c (κ := KR c)) $$ [HI Ho] with H
  · isplitl [HI] <;> iassumption
  imodintro
  isplitl [Hc]; · iexists f; iexact Hc
  iapply (show (bigSep (others c) (fun j => iprop(tokA c j ∗ tokB c j ∗ ∃ f, rowPts (F := F) c j qR f)) : sProp 𝕄)
      ⊢ iprop(bigSep (others c) (fun j => tokA c j) ∗ bigSep (others c) (fun t => barPay (F := F) t c)) from by
    rw [← family_sep]
    refine family_mono fun j _ => ?_
    unfold barPay
    iintro ⟨HA, HB, Hr⟩
    isplitl [HA]; · iexact HA
    isplitl [Hr] <;> iassumption)
  iexact H

/-- The totals' buffer after the kernel: whole again, all totals in it. -/
theorem disarm_all (c : Fin 8) :
    iprop(recs X K KR ∗ bigSep (others c) (fun j => tokA c j) ∗ bigSep (others c) (recvPay X c) ∗ rowPts c c qL (tot X) ∗ bigSep (others c) (sendPay X c))
      ⊢ (iprop(|={Set.univ}=> (tLoc c ↦{fullShare} tot X)) : sProp 𝕄) := by
  iintro ⟨Hrec, HA, Hr, Hl, Hs⟩
  ihave HI := (recs_row (X := X) c) $$ Hrec
  imod (disarm c (κ := KR c) (tot X)) $$ [HI HA Hr] with H
  · isplitl [HI]; · iexact HI
    iapply (show iprop(bigSep (others c) (fun j => tokA c j) ∗ bigSep (others c) (recvPay X c))
        ⊢ (bigSep (others c) (fun j => iprop(tokA c j ∗ tokB c j ∗ rowPts c j qR (tot X))) : sProp 𝕄) from by
      rw [← family_sep]
      refine family_mono fun j _ => ?_
      unfold recvPay
      iintro ⟨HA, Hr, HB⟩
      isplitl [HA]; · iexact HA
      isplitl [HB] <;> iassumption)
    isplitl [HA] <;> iassumption
  imodintro
  ihave Hs := (show (bigSep (others c) (sendPay X c) : sProp 𝕄) ⊢ rowPts c c qR (tot X) from
    Entails.of_eq (Transfers.pointsTo_deal (others c) (others_nonempty c) qR).symm) $$ Hs
  iapply (show iprop(rowPts c c fullShare (tot X) ∗ bigSep (others c) (fun j => rowPts c j fullShare (tot X))) ⊢ (tLoc c ↦{fullShare} tot X : sProp 𝕄) from
    Entails.of_eq (by rw [rows_eq, family_univ c]))
  isplitr [H]
  · iapply (row_join c c (tot X) (tot X))
    isplitl [Hl] <;> iassumption
  · iexact H

/-- A family of cells with no round left: their counters are at zero. -/
theorem close_family (s : Finset (Fin 8)) (cell : Fin 8 → GSem nD τ sig) (R : Fin 8 → ℕ)
    (hinv : ∀ j, ∃ κ, recs X K KR ⊢ cellInv ER (Rd X) κ (cell j)) (hR : ∀ j ∈ s, ∀ r, R j ≤ r → (Rd X).duties (cell j) r = ∅) :
    iprop(recs X K KR ∗ bigSep s fun j => atPos ER (cell j) (R j) ∅ 0) ⊢ (iprop(|={Set.univ}=> bigSep s fun j => semVal (cell j) 0) : sProp 𝕄) := by
  refine BIBase.Entails.trans (BIClass.sep_mono (BI.bigSep_of_persistent s (recs X K KR)) .rfl) ?_
  refine BIBase.Entails.trans ?_ (bigSep_fupd _ _)
  refine (Entails.of_eq (family_sep s _ _).symm).trans (family_mono fun j hj => ?_)
  obtain ⟨κ, hκ⟩ := hinv j
  exact (BIClass.sep_mono hκ .rfl).trans (Rounds.cell_close ER (Rd X) (Set.mem_univ κ) (fun h => h) (hR j hj))

/-- Every semaphore's counter at zero. -/
abbrev semsZero (c : Fin 8) : sProp 𝕄 :=
  iprop(semVal (barCell c) 0 ∗ (bigSep Finset.univ fun k => semVal (sendCell c k) 0) ∗ bigSep Finset.univ fun j => semVal (recvCell c j) 0)

theorem close_all (c : Fin 8) :
    iprop(recs X K KR ∗ atPos ER (barCell c) 1 ∅ 0 ∗ atPos ER (sendCell c c) 0 ∅ 0 ∗ atPos ER (recvCell c c) 0 ∅ 0
        ∗ bigSep (others c) (fun k => atPos ER (sendCell c k) 1 ∅ 0) ∗ bigSep (others c) (fun j => atPos ER (recvCell c j) 1 ∅ 0))
      ⊢ (iprop(|={Set.univ}=> semsZero c) : sProp 𝕄) := by
  have hb := (recs_bar (X := X) (K := K) (KR := KR) c).trans sep_elim_left
  have hs := fun k => (recs_send (X := X) (K := K) (KR := KR) c k).trans sep_elim_left
  have hr := fun j => (recs_recv (X := X) (K := K) (KR := KR) c j).trans sep_elim_left
  have own_s : ∀ r, 0 ≤ r → (Rd X).duties (sendCell c c) r = ∅ := fun r _ => by
    rcases Nat.eq_zero_or_pos r with rfl | h
    · rw [duties_send, if_pos rfl]
    · exact duties_later X _ r h
  have own_r : ∀ r, 0 ≤ r → (Rd X).duties (recvCell c c) r = ∅ := fun r _ => by
    rcases Nat.eq_zero_or_pos r with rfl | h
    · rw [duties_recv, if_pos rfl]
    · exact duties_later X _ r h
  iintro ⟨#Hrec, Hb, Hs, Hr, Hss, Hrs⟩
  imod (Rounds.cell_close ER (Rd X) (Set.mem_univ (K (c, 0))) (fun h => h) (R := 1) (duties_later X (barCell c))) $$ [Hb] with Hzb
  · isplitr; · iapply hb; iexact Hrec
    iexact Hb
  imod (Rounds.cell_close ER (Rd X) (Set.mem_univ (K (c, sIx c))) (fun h => h) (R := 0) own_s) $$ [Hs] with Hzs
  · isplitr; · iapply (hs c); iexact Hrec
    iexact Hs
  imod (Rounds.cell_close ER (Rd X) (Set.mem_univ (K (c, rIx c))) (fun h => h) (R := 0) own_r) $$ [Hr] with Hzr
  · isplitr; · iapply (hr c); iexact Hrec
    iexact Hr
  imod (close_family X K KR (others c) (fun k => sendCell c k) (fun _ => 1) (fun k => ⟨_, hs k⟩) (fun k _ => duties_later X _)) $$ [Hss] with Hzss
  · isplitr; · iexact Hrec
    iexact Hss
  imod (close_family X K KR (others c) (fun j => recvCell c j) (fun _ => 1) (fun j => ⟨_, hr j⟩) (fun j _ => duties_later X _)) $$ [Hrs] with Hzrs
  · isplitr; · iexact Hrec
    iexact Hrs
  imodintro
  isplitl [Hzb]; · iexact Hzb
  isplitl [Hzs Hzss]
  · iapply (Entails.of_eq (family_univ c fun k => semVal (sendCell c k) 0).symm)
    isplitl [Hzs] <;> iassumption
  · iapply (Entails.of_eq (family_univ c fun j => semVal (recvCell c j) 0).symm)
    isplitl [Hzr] <;> iassumption

/-- What device `c` has at the end: nothing owed, its block of `x` unchanged, its result, the totals, every counter at zero. -/
def Done (c : Fin 8) : sProp 𝕄 :=
  iprop((∃ W, owes (Dev.tc (c : Dev nD) : Thread nD τ) 0 W) ∗ xPts X c ∗ oPts c (outAt X c) ∗ (tLoc c ↦{fullShare} tot X) ∗ semsZero c)

theorem bind_chain (c : Fin 8) {β : Type} {p : Prog (TpuEff nD τ sig (Elt F) Λ₀ .tc) β} {k : β → Prog (TpuEff nD τ sig (Elt F) Λ₀ .tc) α}
    (h : P ⊢ WP c p fun a => WP c (k a) Q) : P ⊢ WP c (p >>= k) Q :=
  h.trans (Entails.of_eq (wp_bind _ _ _ p k Q).symm)

/-- After the last wait everything is put back. -/
theorem finish (c : Fin 8) :
    iprop(recs X K KR ∗ waitSt c sendS (sendPay X c) ∅ ∗ bigSep (others c) (recvPay X c) ∗ bigSep (others c) (fun j => atPos ER (recvCell c j) 1 ∅ 0)
        ∗ oPts c (outAt X c) ∗ rowPts c c qL (tot X) ∗ bigSep (others c) (fun j => tokA c j) ∗ xPts X c
        ∗ (atPos ER (barCell c) 1 ∅ 0 ∗ atPos ER (sendCell c c) 0 ∅ 0 ∗ atPos ER (recvCell c c) 0 ∅ 0))
      ⊢ (iprop(|={Set.univ}=> Done X c) : sProp 𝕄) := by
  iintro ⟨#Hrec, HW, Hr, Har, Ho, Hl, HA, Hx, ⟨Hb, Hs, Hv⟩⟩
  ihave HW := (waitSt_done c sendS (sendPay X c)) $$ HW
  icases HW with ⟨HO, Hp, Has⟩
  imod (disarm_all X K KR c) $$ [HA Hr Hl Hp] with Ht
  · isplitr; · iexact Hrec
    isplitl [HA]; · iexact HA
    isplitl [Hr]; · iexact Hr
    isplitl [Hl] <;> iassumption
  imod (close_all X K KR c) $$ [Hb Hs Hv Has Har] with Hz
  · isplitr; · iexact Hrec
    isplitl [Hb]; · iexact Hb
    isplitl [Hs]; · iexact Hs
    isplitl [Hv]; · iexact Hv
    isplitl [Has] <;> iassumption
  imodintro
  unfold Done
  isplitl [HO]; · iexact HO
  isplitl [Hx]; · iexact Hx
  isplitl [Ho]; · iexact Ho
  isplitl [Ht] <;> iassumption

set_option maxHeartbeats 2000000 in
/-- The kernel's body on device `c`. -/
theorem body_wp (c : Fin 8) {Q : PUnit.{1} → sProp 𝕄} (hk : Done X c ∗ P ⊢ Q ⟨⟩) :
    iprop(recs X K KR ∗ Start c ∗ (∃ W, owes (Dev.tc (c : Dev nD) : Thread nD τ) (O₀ c) W) ∗ xPts X c ∗ (∃ f, oPts c f) ∗ (∃ f, tLoc c ↦{fullShare} f) ∗ P)
      ⊢ WP c (cc0_body (F := F) xM (Memref.isWhole_whole _) oM (Memref.isWhole_whole _) tM (Memref.isWhole_whole _) cc0_scratch1 cc0_scratch2) Q := by
  rw [body_steps]
  unfold Start
  iintro ⟨#Hrec, ⟨⟨Hab, Has, Har⟩, ⟨Hlev, Hcb⟩, Htb, Hts, Hss, Hrt⟩, HO, Hx, ⟨%fo, Ho⟩, Ht, HP⟩
  imod (arm_all X K KR c) $$ [Ht] with ⟨Hrow, HA, Hbp⟩
  · isplitr; · iexact Hrec
    iexact Ht
  iapply (show iprop(recs X K KR ∗ sigSt (F := F) c (others c) ∗ xPts X c ∗ ((∃ f, rowPts (F := F) c c fullShare f) ∗ outUpto X c 0
      ∗ (levAts L lv ∗ cred (tallyAt (barCell c) () 7) ∗ atPos ER (barCell c) 0 ∅ 0) ∗ sendToks c ∗ recvToks c ∗ bigSep (others c) (fun j => tokA c j) ∗ sendAts c
      ∗ (atPos ER (sendCell c c) 0 ∅ 0 ∗ atPos ER (recvCell c c) 0 ∅ 0) ∗ P)) ⊢ _ from ?_)
  rotate_left
  · isplitr; · iexact Hrec
    isplitl [HO Htb Hbp]
    · unfold sigSt
      isplitl [HO]; · iexact HO
      iapply (Entails.of_eq (family_sep (others c) (fun t => dutyTok ER (barCell t) 0 c) (fun t => barPay (F := F) t c)).symm)
      isplitl [Htb] <;> iassumption
    isplitl [Hx]; · iexact Hx
    isplitl [Hrow]; · iexact Hrow
    isplitl [Ho]
    · unfold outUpto
      iexists fo
      isplitr; · ipureintro; exact fun i h => absurd h (Nat.not_lt_zero _)
      iexact Ho
    isplitl [Hlev Hcb Hab]
    · isplitl [Hlev]; · iexact Hlev
      isplitl [Hcb] <;> iassumption
    isplitl [Hts]; · iexact Hts
    isplitl [Hrt]; · iexact Hrt
    isplitl [HA]; · iexact HA
    isplitl [Hss]; · iexact Hss
    isplitl [Has Har]
    · isplitl [Has] <;> iassumption
    iexact HP
  refine bind_chain c ?_
  refine part17_wp X K KR c ?_
  refine bind_chain c ?_
  refine BIBase.Entails.trans (Q := iprop((∃ f, rowPts (F := F) c c fullShare f) ∗ (recs X K KR ∗ sigSt (F := F) c ∅ ∗ xPts X c ∗ outUpto X c 0
      ∗ (levAts L lv ∗ cred (tallyAt (barCell c) () 7) ∗ atPos ER (barCell c) 0 ∅ 0) ∗ sendToks c ∗ recvToks c ∗ bigSep (others c) (fun j => tokA c j) ∗ sendAts c
      ∗ (atPos ER (sendCell c c) 0 ∅ 0 ∗ atPos ER (recvCell c c) 0 ∅ 0) ∗ P))) ?_ ?_
  · iintro ⟨H1, H2, H3, H4, H5⟩
    isplitl [H4]; · iexact H4
    isplitl [H1]; · iexact H1
    isplitl [H2]; · iexact H2
    isplitl [H3]; · iexact H3
    iexact H5
  refine part18_wp X c ?_
  refine bind_chain c ?_
  refine BIBase.Entails.trans (Q := iprop(recs X K KR ∗ (∃ W, owes (Dev.tc (c : Dev nD) : Thread nD τ) (sendO c (others c)) W) ∗ xPts X c ∗ outUpto X c 0
        ∗ rowPts c c fullShare (tot X) ∗ (levAts L lv ∗ cred (tallyAt (barCell c) () 7) ∗ atPos ER (barCell c) 0 ∅ 0) ∗ sendToks c
        ∗ (recvToks c ∗ bigSep (others c) (fun j => tokA c j) ∗ sendAts c ∗ (atPos ER (sendCell c c) 0 ∅ 0 ∗ atPos ER (recvCell c c) 0 ∅ 0) ∗ P))) ?_ ?_
  · unfold sigSt
    rw [show barO c ∅ = 0 from Finset.sum_empty, add_zero]
    iintro ⟨H1, H2, ⟨HO, -⟩, H3, H4, H5, H6, H7⟩
    isplitl [H2]; · iexact H2
    isplitl [HO]; · iexact HO
    isplitl [H3]; · iexact H3
    isplitl [H4]; · iexact H4
    isplitl [H1]; · iexact H1
    isplitl [H5]; · iexact H5
    isplitl [H6]; · iexact H6
    iexact H7
  refine part19_wp X K KR c ?_
  refine bind_chain c ?_
  refine BIBase.Entails.trans (Q := iprop(recs X K KR ∗ sendSt X c (toSend c 4) ∗ xPts X c ∗ outUpto X c 512 ∗ recvToks c
        ∗ (rowPts c c qL (tot X) ∗ bigSep (others c) (fun j => tokA c j) ∗ sendAts c
          ∗ (atPos ER (barCell c) 1 ∅ 0 ∗ atPos ER (sendCell c c) 0 ∅ 0 ∗ atPos ER (recvCell c c) 0 ∅ 0) ∗ P))) ?_ ?_
  · iintro ⟨H1, H2, H3, H4, H5, H6, H7, H8, H9, ⟨H10, H11⟩, H12⟩
    isplitl [H1]; · iexact H1
    isplitl [H2]; · iexact H2
    isplitl [H3]; · iexact H3
    isplitl [H4]; · iexact H4
    isplitl [H7]; · iexact H7
    isplitl [H5]; · iexact H5
    isplitl [H8]; · iexact H8
    isplitl [H9]; · iexact H9
    isplitl [H6 H10 H11]
    · isplitl [H6]; · iexact H6
      isplitl [H10] <;> iassumption
    iexact H12
  refine part20_wp X K KR c ?_
  refine bind_chain c ?_
  refine BIBase.Entails.trans (Q := iprop(recs X K KR ∗ waitSt c recvS (recvPay X c) (pend₁ c 1) ∗ outUpto X c 1024 ∗ rowPts c c qL (tot X)
        ∗ bigSep (others c) (fun j => tokA c j) ∗ (xPts X c ∗ sentCreds c ∗ sendAts c
          ∗ (atPos ER (barCell c) 1 ∅ 0 ∗ atPos ER (sendCell c c) 0 ∅ 0 ∗ atPos ER (recvCell c c) 0 ∅ 0) ∗ P))) ?_ ?_
  · iintro ⟨H1, H2, H3, H4, H5, H6, H7, H8⟩
    isplitl [H1]; · iexact H1
    isplitl [H2]; · iexact H2
    isplitl [H4]; · iexact H4
    isplitl [H6]; · iexact H6
    isplitl [H7]; · iexact H7
    isplitl [H3]; · iexact H3
    isplitl [H5]; · iexact H5
    iexact H8
  refine part21_wp X K KR c ?_
  refine bind_chain c ?_
  refine BIBase.Entails.trans (Q := iprop(recs X K KR ∗ waitSt c recvS (recvPay X c) (pend₂ c 0) ∗ sentCreds c ∗ sendAts c
        ∗ (oPts c (outAt X c) ∗ rowPts c c qL (tot X) ∗ bigSep (others c) (fun j => tokA c j) ∗ xPts X c
          ∗ (atPos ER (barCell c) 1 ∅ 0 ∗ atPos ER (sendCell c c) 0 ∅ 0 ∗ atPos ER (recvCell c c) 0 ∅ 0) ∗ P))) ?_ ?_
  · iintro ⟨H1, H2, H3, H4, H5, H6, H7, H8, H9⟩
    isplitl [H1]; · iexact H1
    isplitl [H2]; · iexact H2
    isplitl [H7]; · iexact H7
    isplitl [H8]; · iexact H8
    isplitl [H3]; · iexact H3
    isplitl [H4]; · iexact H4
    isplitl [H5]; · iexact H5
    isplitl [H6]; · iexact H6
    iexact H9
  refine part22_wp X K KR c ?_
  refine last_wp X K KR c ?_
  iintro ⟨H1, H2, H3, H4, H5, H6, H7, H8, H9, HP⟩
  imod (finish X K KR c) $$ [H1 H2 H3 H4 H5 H6 H7 H8 H9] with HD
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  imodintro
  iapply hk
  isplitl [HD] <;> iassumption

end Cert.KernelIdeal.Scan
-- ==== Proof.Ideal.Launch.lean ====
module

public import proofs.«01_k».proof.Proof.Ideal.Body
public import proofs.«01_k».proof.Proof.Gen.KernelIdeal.Points
public import Idealize.ShloMosaic.Lib.Pipeline.CollectiveSegs

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel is run on -/

abbrev t₀ : Fin cfg0.N := (0 : Fin 1)

/-- Device `c`'s block of the argument, as staged. -/
def blockOf (c : Fin 8) : FVec F S1024x512 .f32 :=
  (win0_0.blk (0 : Fin 1)).view.read (Elt F) ((s₀ m ρ).mem (((c : Dev nD) : Thread nD τ).loc main_arg0))

/-- What a device holds before its body: shared records, its own means, and the totals' buffer at any contents. -/
def start (c : Dev nD) : sProp 𝕄 := iprop(∃ K KR, recs (blockOf m ρ) K KR ∗ Start c)
def Φ₀ (c : Dev nD) : sProp 𝕄 := iprop(start m ρ c ∗ ∃ f, tLoc c ↦{fullShare} f)
/-- After it: the buffer with all totals in it, and every semaphore's counter at zero. -/
def Φ₁ (c : Dev nD) : sProp 𝕄 := iprop((tLoc c ↦{fullShare} tot (blockOf m ρ)) ∗ semsZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockOf m ρ c
    | ⟨1, _⟩ => outAt (blockOf m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem staged (t : Fin cfg0.N) : (cfg0.win (0 : Fin 2)).fetch t = true := by rw [fin_N0 t]; rfl

omit [FloatOps F] in
theorem owns_all (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev held (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m ρ c ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))

def bodyPost (c : Dev nD) : sProp 𝕄 :=
  iprop(Φ₁ m ρ c ∗ (dats m ρ 0 c).owesAt () t₀.succ ∗ held c cc0_stg0_0 (blockOf m ρ c) ∗ held c cc0_stg1_0 (outAt (blockOf m ρ) c))

theorem before_x (c : Dev nD) (d) : (dats m ρ 0 c).before (0 : Fin 2) t₀ d = blockOf m ρ c := by
  unfold Dat.before; rw [if_pos (staged t₀)]; rfl

/-- What `body_wp` ends with is the postcondition the pipeline asks for. -/
theorem done_post (c : Dev nD) : iprop(Done (blockOf m ρ) c ∗ emp) ⊢ (bodyPost m ρ c : sProp 𝕄) := by
  unfold Done bodyPost Φ₁ Dat.owesAt Pipeline.owesWithin
  rw [show (dats m ρ 0 c).owed t₀.succ = 0 from rfl]
  iintro ⟨⟨⟨%W, HO⟩, Hx, Ho, Ht, Hz⟩, -⟩
  isplitl [Ht Hz]
  · isplitl [Ht] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_all]
  show bodyPre m ρ c ⊢ WP c (cc0_body (F := F) xM (Memref.isWhole_whole _) oM (Memref.isWhole_whole _) tM (Memref.isWhole_whole _) cc0_scratch1 cc0_scratch2)
    (fun _ => bodyPost m ρ c)
  unfold bodyPre Φ₀ start Dat.owesAt Pipeline.owesWithin
  rw [show (dats m ρ 0 c).owed t₀.castSucc = O₀ c from rfl]
  iintro ⟨⟨⟨%K, %KR, Hrec, Hs⟩, Ht⟩, ⟨%W, %hW, HO⟩, ⟨%d, %f, %hf, Hx⟩, ⟨%d', %g, %hg, Hout⟩⟩
  rw [before_x m ρ c d] at hf
  subst hf
  iapply (body_wp (blockOf m ρ) K KR c (P := iprop(emp)) (Q := fun _ => bodyPost m ρ c) (done_post m ρ c))
  isplitl [Hrec]; · iexact Hrec
  isplitl [Hs]; · iexact Hs
  isplitl [HO]; · iexists W; iexact HO
  isplitl [Hx]; · iexact Hx
  isplitl [Hout]; · iexists g; iexact Hout
  isplitl [Ht]; · iexact Ht
  iempintro

/-! ## The cells and tokens of the launch -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 17, csem k = csem k' → k = k' := by decide

theorem kcell_injective : Function.Injective kcell := by
  rintro ⟨c, k⟩ ⟨c', k'⟩ h
  have h1 : c = c' := congrArg (fun g : GSem nD τ sig => g.1.1) h
  have h2 : k = k' := csem_inj k k' (congrArg Prod.snd h)
  rw [h1, h2]

def scanCells : Finset (GSem nD τ sig) := Finset.univ.map ⟨kcell, kcell_injective⟩

/-- The five tokens named after device `j` among the cells of device `c`: its barrier's, its send's and its arrival's
    duty, and the two that guard the row. -/
def tokSem (j : Fin 8) (k : Fin 5) : SemLoc sig := match k with
  | 0 => .reg barS | 1 => .dma (sendS j) | 2 => .dma (recvS j) | 3 => .dma (recvS j) | 4 => .dma (recvS j)
def tokRound (k : Fin 5) : ℕ := match k with | 0 => 0 | 1 => 0 | 2 => 0 | 3 => 1 | 4 => 2
def tokOf (x : Fin 8 × Fin 8 × Fin 5) : GSem nD τ sig × ℕ × Fin 8 :=
  (((Dev.tc (x.1 : Dev nD) : Thread nD τ), tokSem x.2.1 x.2.2), tokRound x.2.2, x.2.1)

theorem tok_kind : ∀ (j : Fin 8) (k k' : Fin 5), tokSem j k = tokSem j k' → tokRound k = tokRound k' → k = k' := by decide

theorem tokOf_injective : Function.Injective tokOf := by
  rintro ⟨c, j, k⟩ ⟨c', j', k'⟩ h
  have h1 : c = c' := congrArg (fun x : GSem nD τ sig × ℕ × Fin 8 => x.1.1.1) h
  have h2 : j = j' := congrArg (fun x : GSem nD τ sig × ℕ × Fin 8 => x.2.2) h
  subst h2
  have h3 : k = k' := tok_kind j k k' (congrArg (fun x : GSem nD τ sig × ℕ × Fin 8 => x.1.2) h) (congrArg (fun x : GSem nD τ sig × ℕ × Fin 8 => x.2.1) h)
  rw [h1, h3]

def scanToks : Finset (GSem nD τ sig × ℕ × Fin 8) := Finset.univ.map ⟨tokOf, tokOf_injective⟩

def u₀ : UU :=
  (initOf (Pipeline.cells cfgs cellOf_inj) (Pipeline.launchToks cfgs cellOf_inj), initOf scanCells scanToks)

/-- All tokens of device `c`'s cells. -/
def toks (c : Fin 8) : sProp 𝕄 :=
  bigSep Finset.univ fun j : Fin 8 =>
    iprop(dutyTok ER (barCell c) 0 j ∗ dutyTok ER (sendCell c j) 0 j ∗ dutyTok ER (recvCell c j) 0 j ∗ tokA c j ∗ tokB c j)

def G (c : Dev nD) : sProp 𝕄 :=
  iprop((bigSep Finset.univ fun k : Fin 17 => roundState ER (Rd (blockOf m ρ)) (kcell (c, k)) 0)
    ∗ (bigSep Finset.univ fun k : Fin 17 => atPos ER (kcell (c, k)) 0 ∅ 0)
    ∗ (bigSep Finset.univ fun k : Fin 17 => reached ER (kcell (c, k)) 0) ∗ toks c)

/-- What stays with device `c` of the rounds: its positions and the tokens of the duties it pays. -/
def Own (c : Fin 8) : sProp 𝕄 :=
  iprop((bigSep Finset.univ fun k : Fin 17 => atPos ER (kcell (c, k)) 0 ∅ 0)
    ∗ (bigSep (others c) fun t => dutyTok ER (barCell t) 0 c) ∗ sendToks c)
def G' (c : Dev nD) : sProp 𝕄 := iprop(∃ K KR, recs (blockOf m ρ) K KR ∗ Own c)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The barrier's semaphore, then the eight a send ends on, then the eight of the arrivals. -/
theorem csem_split : (Finset.univ : Finset (Fin 17))
    = insert 0 ((Finset.univ.map ⟨sIx, by decide⟩) ∪ (Finset.univ.map ⟨rIx, by decide⟩)) := by decide

omit [FloatOps F] in
theorem bigSep_cells (c : Fin 8) (Ψ : GSem nD τ sig → sProp 𝕄) :
    (bigSep Finset.univ fun k : Fin 17 => Ψ (kcell (c, k)))
      = iprop(Ψ (barCell c) ∗ (bigSep Finset.univ fun k => Ψ (sendCell c k)) ∗ bigSep Finset.univ fun j => Ψ (recvCell c j)) := by
  rw [csem_split, bigSep_insert (by decide), bigSep_union (by decide), bigSep_map, bigSep_map]
  have e1 : (bigSep Finset.univ fun k => Ψ (kcell (c, sIx k))) = bigSep Finset.univ fun k => Ψ (sendCell c k) :=
    bigSep_congr fun k _ => by dsimp only [kcell]; rw [csem_sIx]
  have e2 : (bigSep Finset.univ fun k => Ψ (kcell (c, rIx k))) = bigSep Finset.univ fun k => Ψ (recvCell c k) :=
    bigSep_congr fun k _ => by dsimp only [kcell]; rw [csem_rIx]
  exact congrArg₂ (fun a b => iprop(Ψ (barCell c) ∗ a ∗ b)) e1 e2

omit [FloatOps F] in
theorem bigSep_own (c : Fin 8) (Ψ : GSem nD τ sig → sProp 𝕄) :
    (bigSep Finset.univ fun i : Fin 16 => Ψ ((Dev.tc (c : Dev nD) : Thread nD τ), osem i))
      = iprop((bigSep Finset.univ fun k => Ψ (sendCell c k)) ∗ bigSep Finset.univ fun j => Ψ (recvCell c j)) := by
  rw [show (Finset.univ : Finset (Fin 16)) = (Finset.univ.map ⟨fun k : Fin 8 => (⟨k.val, by omega⟩ : Fin 16), by decide⟩)
      ∪ (Finset.univ.map ⟨fun j : Fin 8 => (⟨j.val + 8, by omega⟩ : Fin 16), by decide⟩) from by decide,
    bigSep_union (by decide), bigSep_map, bigSep_map]
  have e1 : ∀ k : Fin 8, osem ⟨k.val, by omega⟩ = .dma (sendS k) := by decide
  have e2 : ∀ j : Fin 8, osem ⟨j.val + 8, by omega⟩ = .dma (recvS j) := by decide
  exact congrArg₂ (fun a b => iprop(a ∗ b))
    (bigSep_congr fun k _ => congrArg (fun s => Ψ ((Dev.tc (c : Dev nD) : Thread nD τ), s)) (e1 k))
    (bigSep_congr fun j _ => congrArg (fun s => Ψ ((Dev.tc (c : Dev nD) : Thread nD τ), s)) (e2 j))

theorem fund_scan : BI.own (ER (initOf scanCells scanToks)) ⊢ (|==> bigSep Finset.univ (G m ρ) : sProp 𝕄) := by
  have hX (Φ : GSem nD τ sig → sProp 𝕄) : bigSep scanCells Φ = bigSep Finset.univ fun c : Dev nD => bigSep Finset.univ fun k : Fin 17 => Φ (kcell (c, k)) := by
    unfold scanCells; rw [bigSep_map, bigSep_univ_prod]; rfl
  have hT : bigSep scanToks (fun x => (dutyTok ER x.1 x.2.1 x.2.2 : sProp 𝕄)) = bigSep Finset.univ fun c : Dev nD => toks c := by
    unfold scanToks; rw [bigSep_map, bigSep_univ_prod]
    refine bigSep_congr fun c _ => ?_
    rw [bigSep_univ_prod]
    unfold toks
    exact bigSep_congr fun j _ => by rw [bigSep_five]; rfl
  iintro HX
  imod (Rounds.fund ER (Rd (blockOf m ρ)) scanCells scanToks) $$ HX with ⟨Hst, Hr, Hat, Htok⟩
  imodintro
  ihave Hst' := (Entails.of_eq (hX fun g => roundState ER (Rd (blockOf m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun j => semVal (recvCell c j) 0) := by
  unfold Pipeline.ownSems0; exact bigSep_own c fun g => semVal g 0
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

/-- The tokens that guard the rows open the rows' invariant. -/
theorem row_open (c : Fin 8) : iprop((bigSep (others c) fun j => tokA c j) ∗ bigSep (others c) fun j => tokB c j) ⊢ (RI (F := F) c : sProp 𝕄) := by
  rw [← family_sep]
  unfold RI
  refine family_mono fun j _ => ?_
  iintro H; ileft; iexact H

omit [FloatOps F] in
/-- The tokens of a device's cells, those named after the device itself left aside. -/
theorem toks_split (c : Fin 8) : (toks c : sProp 𝕄)
    ⊢ iprop(((bigSep (others c) fun j => dutyTok ER (barCell c) 0 j) ∗ (bigSep (others c) fun j => dutyTok ER (sendCell c j) 0 j)
        ∗ bigSep (others c) fun j => dutyTok ER (recvCell c j) 0 j)
      ∗ (bigSep (others c) fun j => tokA c j) ∗ bigSep (others c) fun j => tokB c j) := by
  unfold toks
  rw [family_univ c, family_sep, family_sep, family_sep, family_sep]
  iintro ⟨-, H1, H2, H3, H4, H5⟩
  isplitl [H1 H2 H3]
  · isplitl [H1]; · iexact H1
    isplitl [H2] <;> iassumption
  isplitl [H4] <;> iassumption

/-- The tokens of the duties that concern device `c`'s cells. -/
def dues (c : Fin 8) : sProp 𝕄 :=
  iprop((bigSep (others c) fun j => dutyTok ER (barCell c) 0 j) ∗ (bigSep (others c) fun j => dutyTok ER (sendCell c j) 0 j)
    ∗ bigSep (others c) fun j => dutyTok ER (recvCell c j) 0 j)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (blockOf m ρ)) κ (kcell (c, k))))
          ∗ (bigSep Finset.univ fun k => reached ER (kcell (c, k)) 0)
          ∗ (∃ κ : ℕ, inv κ (RI (F := F) c)) ∗ (bigSep Finset.univ fun k => atPos ER (kcell (c, k)) 0 ∅ 0) ∗ dues c) := by
  unfold G
  iintro ⟨Hos, Hus, Hst, Hat, Hr, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) from by
    rw [ownSems_eq, unscopedSems_eq, bigSep_cells c fun g => semVal g 0]
    iintro ⟨⟨HS, HV⟩, HB⟩
    isplitl [HB]; · iexact HB
    isplitl [HS] <;> iassumption) $$ [Hos Hus]
  · isplitl [Hos] <;> iassumption
  imod (show iprop((bigSep Finset.univ fun k : Fin 17 => semVal (kcell (c, k)) 0) ∗ bigSep Finset.univ fun k : Fin 17 => roundState ER (Rd (blockOf m ρ)) (kcell (c, k)) 0)
      ⊢ (|={Set.univ}=> bigSep Finset.univ fun k => iprop(∃ κ : ℕ, cellInv ER (Rd (blockOf m ρ)) κ (kcell (c, k))) : sProp 𝕄) from by
        rw [← bigSep_sep']
        exact (bigSep_mono fun k _ => (Rounds.body_intro ER (Rd (blockOf m ρ)) (kcell (c, k))).trans inv_alloc).trans (bigSep_fupd _ _)) $$ [Hv Hst] with Hinv
  · isplitl [Hv] <;> iassumption
  ihave Htok := (toks_split (F := F) c) $$ Htok
  icases Htok with ⟨Hd, HA, HB⟩
  imod (show iprop((bigSep (others c) fun j => tokA c j) ∗ bigSep (others c) fun j => tokB c j) ⊢ (|={Set.univ}=> ∃ κ : ℕ, inv κ (RI (F := F) c) : sProp 𝕄) from
    (row_open c).trans inv_alloc) $$ [HA HB] with HR
  · isplitl [HA] <;> iassumption
  imodintro
  isplitl [Hinv]; · iexact Hinv
  isplitl [Hr]; · iexact Hr
  isplitl [HR]; · iexact HR
  isplitl [Hat]; · iexact Hat
  unfold dues; iexact Hd

omit [FloatOps F] in
/-- A family over the ordered pairs of two devices, read the other way round. -/
theorem pairs_swap (Φ : Fin 8 → Fin 8 → sProp 𝕄) :
    (bigSep Finset.univ fun c => bigSep (others c) fun j => Φ c j) = bigSep Finset.univ fun c => bigSep (others c) fun j => Φ j c := by
  have h (c : Fin 8) (Ψ : Fin 8 → sProp 𝕄) : bigSep (others c) Ψ = bigSep Finset.univ fun j => if j ≠ c then Ψ j else BI.emp := by
    rw [← bigSep_filter, Finset.filter_ne']
  simp only [h]
  refine (bigSep_univ_prod (fun x : Fin 8 × Fin 8 => if x.2 ≠ x.1 then Φ x.1 x.2 else (BI.emp : sProp 𝕄))).symm.trans ?_
  rw [bigSep_univ_equiv (Equiv.prodComm (Fin 8) (Fin 8)), bigSep_univ_prod]
  exact bigSep_congr fun a _ => bigSep_congr fun b _ => if_congr ne_comm rfl rfl

omit [FloatOps F] in
/-- Every token goes to the device that pays its duty. -/
theorem dues_around : (bigSep Finset.univ fun c : Fin 8 => (dues c : sProp 𝕄))
    ⊢ bigSep Finset.univ fun c : Fin 8 => iprop((bigSep (others c) fun t => dutyTok ER (barCell t) 0 c) ∗ sendToks c) := by
  unfold dues sendToks
  simp only [family_sep]
  rw [pairs_swap (fun c j => (dutyTok ER (barCell c) 0 j : sProp 𝕄)),
    pairs_swap (fun c j => (dutyTok ER (recvCell c j) 0 j : sProp 𝕄))]

omit [FloatOps F] in
theorem share_out {R : sProp 𝕄} [BI.Persistent R] {Φ Ψ : Fin 8 → sProp 𝕄}
    (h : ∀ i, iprop(R ∗ Φ i) ⊢ Ψ i) : iprop(R ∗ bigSep Finset.univ Φ) ⊢ bigSep Finset.univ Ψ :=
  (BIClass.sep_mono (BI.bigSep_of_persistent Finset.univ R) .rfl).trans (by rw [← family_sep]; exact family_mono fun i _ => h i)

theorem regroup :
    (bigSep Finset.univ fun c : Dev nD => iprop((bigSep Finset.univ fun k => iprop(∃ κ : ℕ, cellInv ER (Rd (blockOf m ρ)) κ (kcell (c, k))))
          ∗ (bigSep Finset.univ fun k => reached ER (kcell (c, k)) 0)
          ∗ (∃ κ : ℕ, inv κ (RI (F := F) c)) ∗ (bigSep Finset.univ fun k => atPos ER (kcell (c, k)) 0 ∅ 0) ∗ dues c) : sProp 𝕄)
      ⊢ bigSep Finset.univ (G' m ρ) := by
  rw [bigSep_sep', bigSep_sep', bigSep_sep', bigSep_sep',
    ← bigSep_univ_prod (fun ck : Fin 8 × Fin 17 => iprop(∃ κ : ℕ, cellInv ER (Rd (blockOf m ρ)) κ (kcell ck))),
    ← bigSep_univ_prod (fun ck : Fin 8 × Fin 17 => (reached ER (kcell ck) 0 : sProp 𝕄))]
  iintro ⟨HI, #Hr, HR, Hat, Hd⟩
  ihave HK := (BI.bigSep_exists_pi Finset.univ (fun (ck : Fin 8 × Fin 17) (κ : ℕ) => (cellInv ER (Rd (blockOf m ρ)) κ (kcell ck) : sProp 𝕄))) $$ HI
  icases HK with ⟨%K, #HI⟩
  ihave HKR := (BI.bigSep_exists_pi Finset.univ (fun (c : Fin 8) (κ : ℕ) => (inv κ (RI (F := F) c) : sProp 𝕄))) $$ HR
  icases HKR with ⟨%KR, #HR⟩
  ihave Hd := (dues_around (F := F)) $$ Hd
  iapply (share_out (R := recs (blockOf m ρ) K KR) (Φ := fun c : Fin 8 => Own c) fun c => show _ ⊢ G' m ρ c from by
    unfold G'
    iintro ⟨H1, H2⟩
    iexists K; iexists KR
    isplitl [H1] <;> iassumption)
  isplitr
  · unfold recs
    isplitl
    · iapply (Entails.of_eq (bigSep_sep' Finset.univ (fun ck : Fin 8 × Fin 17 => (cellInv ER (Rd (blockOf m ρ)) (K ck) (kcell ck) : sProp 𝕄)) (fun ck => reached ER (kcell ck) 0)).symm)
      isplitl; · iexact HI
      iexact Hr
    iexact HR
  · iapply (Entails.of_eq (bigSep_sep' Finset.univ (fun c : Fin 8 => bigSep Finset.univ fun k : Fin 17 => (atPos ER (kcell (c, k)) 0 ∅ 0 : sProp 𝕄))
      (fun c : Fin 8 => iprop((bigSep (others c) fun t => dutyTok ER (barCell t) 0 c) ∗ sendToks c))).symm)
    isplitl [Hat]; · iexact Hat
    iexact Hd

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owed_at (d : Fin 8) (g : GSem nD τ sig) : O₀ d g ()
    = (∑ t ∈ others d, if g = recvCell t d then N else 0) + ∑ t ∈ others d, if g = barCell t then 1 else 0 := by
  unfold O₀ sendO barO
  rw [Pi.add_apply, Finsupp.add_apply, Finset.sum_apply, Finset.sum_apply, Finsupp.finset_sum_apply, Finsupp.finset_sum_apply]
  congr 1
  · refine Finset.sum_congr rfl fun t _ => ?_
    rw [tallyAt_apply]; simp
  · refine Finset.sum_congr rfl fun t _ => ?_
    rw [tallyAt_apply]; simp

theorem bar_eq_iff {a b : Fin 8} : barCell a = barCell b ↔ a = b :=
  ⟨fun h => congrArg (fun g : GSem nD τ sig => g.1.1) h, fun h => h ▸ rfl⟩
theorem recv_eq_iff {a b i j : Fin 8} : recvCell a i = recvCell b j ↔ a = b ∧ i = j :=
  ⟨fun h => ⟨congrArg (fun g : GSem nD τ sig => g.1.1) h, recvS_inj (SemLoc.dma.inj (congrArg Prod.snd h))⟩, fun h => by rw [h.1, h.2]⟩

theorem owed_bar (d c : Fin 8) : O₀ d (barCell c) () = if d ∈ others c then 1 else 0 := by
  rw [owed_at, Finset.sum_eq_zero fun t _ => if_neg fun h => dma_ne_bar _ (congrArg Prod.snd h).symm, Nat.zero_add]
  simp only [bar_eq_iff, Finset.sum_ite_eq]
  exact if_congr (by simp [eq_comm]) rfl rfl

theorem owed_recv (d c j : Fin 8) (h : j ≠ c) : O₀ d (recvCell c j) () = if d = j then N else 0 := by
  rw [owed_at, Finset.sum_eq_zero (s := others d) (f := fun t => if recvCell c j = barCell t then 1 else 0)
    fun t _ => if_neg fun h => dma_ne_bar _ (congrArg Prod.snd h), Nat.add_zero]
  by_cases hd : d = j
  · subst hd
    rw [if_pos rfl, Finset.sum_eq_single c (fun t _ ht => if_neg fun h => ht (recv_eq_iff.mp h).1.symm)
      (fun hc => absurd (Finset.mem_erase.mpr ⟨fun h' => h h'.symm, Finset.mem_univ _⟩) hc), if_pos rfl]
  · rw [if_neg hd]
    exact Finset.sum_eq_zero fun t _ => if_neg fun h => hd (recv_eq_iff.mp h).2.symm

theorem launch_bar (c : Fin 8) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, ← Finset.sum_filter,
    Finset.filter_mem_eq_inter, Finset.univ_inter, Finset.sum_const, others_card, smul_eq_mul]

theorem launch_recv (c j : Fin 8) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ j fun _ => N, if_pos (Finset.mem_univ _)]

omit [FloatOps F] in
theorem creds (c : Fin 8) :
    (Pipeline.launchCred O₀ c : sProp 𝕄) ⊢ iprop(cred (tallyAt (barCell c) () 7) ∗ bigSep (others c) fun j => cred (tallyAt (recvCell c j) () N)) := by
  unfold Pipeline.launchCred
  rw [bigSep_univ_at _ (SemLoc.reg barS), launch_bar]
  refine BIClass.sep_mono .rfl ?_
  refine (bigSep_subset (t := (others c).map ⟨fun j => SemLoc.dma (recvS j), fun a b h => recvS_inj (SemLoc.dma.inj h)⟩) fun s hs => ?_).trans ?_
  · obtain ⟨j, -, rfl⟩ := Finset.mem_map.mp hs
    exact Finset.mem_erase.mpr ⟨dma_ne_bar _, Finset.mem_univ _⟩
  · rw [bigSep_map]
    refine family_mono fun j hj => Entails.of_eq ?_
    rw [← launch_recv c j (Finset.ne_of_mem_erase hj)]; rfl

/-! ## The conditions at both ends -/

omit [FloatOps F] in
/-- A device's positions and tokens with its credits are what its body starts from. -/
theorem own_start (c : Fin 8) :
    iprop(Own c ∗ levAts L lv ∗ cred (tallyAt (barCell c) () 7) ∗ bigSep (others c) fun j => cred (tallyAt (recvCell c j) () N)) ⊢ (Start c : sProp 𝕄) := by
  unfold Own Start sendAts recvToks
  rw [bigSep_cells c fun g => atPos ER g 0 ∅ 0, family_univ c, family_univ c, family_sep]
  iintro ⟨⟨⟨HB, ⟨HS, HSs⟩, ⟨HV, HVs⟩⟩, Ht, Hs⟩, Hl, H7, HN⟩
  isplitl [HB HS HV]
  · isplitl [HB]; · iexact HB
    isplitl [HS] <;> iassumption
  isplitl [Hl H7]
  · isplitl [Hl] <;> iassumption
  isplitl [Ht]; · iexact Ht
  isplitl [Hs]; · iexact Hs
  isplitl [HSs]; · iexact HSs
  isplitl [HN] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%K, %KR, Hrec, Hown⟩⟩
  ihave Hc := (creds (F := F) c) $$ Hcr
  imodintro
  isplitl
  · iexists K; iexists KR
    isplitl [Hrec]; · iexact Hrec
    iapply (own_start (F := F) c)
    isplitl [Hown]; · iexact Hown
    isplitl [Hlev]; · iexact Hlev
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_eq, unscopedSems_eq]
  unfold Φ₁
  iintro ⟨Hr, HzB, HzS, HzV⟩
  isplitl [HzB]; · iexact HzB
  isplitl [HzS HzV]
  · isplitl [HzS] <;> iassumption
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution of the eight devices ends, with
    the arrays at the computed contents and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_scan m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem final_arg (c : Dev nD) : finalA m ρ c (0 : Fin 2) = m ((c.tc : Thread nD τ).loc main_arg0) :=
  (dats (F := F) m ρ 0 c).arrAt_in (0 : Fin 2) rfl _

/-- The result's array holds what the body leaves. -/
theorem final_res (c : Dev nD) : (win0_1.blk (0 : Fin 1)).view.read (Elt F) (finalA m ρ c (1 : Fin 2)) = outAt (blockOf m ρ) c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- What a run leaves: the argument as it was, the counters at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (final_arg m ρ c), h.2⟩) (run_main m ρ)

end Cert.KernelIdeal.Scan
-- ==== Proof.Ideal.Value.lean ====
module

public import proofs.«01_k».proof.Proof.Ideal.Out
public import proofs.«01_k».proof.Proof.Gen.ReferenceIdeal
public import Idealize.ShloMosaic.Lib.Pointwise

@[expose] public section

set_option maxRecDepth 16384

noncomputable section

namespace Cert.KernelIdeal.Scan

open Cert.KernelIdeal Cert.KernelIdeal.Gen
open Idealize.ShloMosaic

/-! ## The kernel's pieces over the extended reals -/

/-- The zero word is the number zero. -/
theorem zro_eq : (zro : Ideal .f32) = 0 := by
  unfold zro; pointwise

/-- The triangle: one on and below the diagonal. -/
theorem tri_apply (r k : Fin 256) : (tri : FVec Ideal S256x256 .bf16) (ix2 r k) = if k.val ≤ r.val then (1 : EReal) else 0 := by
  have h : (tri : FVec Ideal S256x256 .bf16) (ix2 r k)
      = Scalar.select (IntOp.cmpi .sge (BitVec.ofNat 32 r.val) (BitVec.ofNat 32 k.val)) (1 : EReal) 0 := by
    unfold tri; pointwise [k0_pay11]
  have e (n : Fin 256) : (BitVec.ofNat 32 n.val).toInt = (n.val : Int) := by
    have hn := n.isLt
    have ht : (BitVec.ofNat 32 n.val).toNat = n.val := by rw [BitVec.toNat_ofNat]; omega
    rw [BitVec.toInt_eq_toNat_of_lt (by rw [ht]; omega), ht]
  rw [h, show IntOp.cmpi .sge (BitVec.ofNat 32 r.val) (BitVec.ofNat 32 k.val)
    = BitVec.ofBool (decide ((BitVec.ofNat 32 k.val).toInt ≤ (BitVec.ofNat 32 r.val).toInt)) from rfl, e, e]
  by_cases hk : k.val ≤ r.val
  · rw [if_pos hk, decide_eq_true (Int.ofNat_le.mpr hk)]; rfl
  · rw [if_neg hk, decide_eq_false (fun q => hk (Int.ofNat_le.mp q))]; rfl

/-- The triangle times a block: at row `r`, the sum of the block's rows up to `r`. -/
theorem pay13_apply (x : Vec Ideal S256x512 .f32) (r : Fin 256) (q : Fin 512) :
    k0_pay13 (F := Ideal) tri x (ix2 r q) = ∑ k : Fin 256, if k.val ≤ r.val then x (ix2 k q) else 0 := by
  have h : k0_pay13 (F := Ideal) tri x (ix2 r q) = ∑ k : Fin 256, (tri : FVec Ideal S256x256 .bf16) (ix2 r k) * x (ix2 k q) := by
    pointwise [k0_pay13]
  rw [h]
  refine Finset.sum_congr rfl fun k _ => ?_
  rw [tri_apply]
  split
  · rw [one_mul]
  · rw [zero_mul]

/-- The first block starts from nothing. -/
theorem pay14_apply (x : Vec Ideal S256x512 .f32) (r : Fin 256) (q : Fin 512) :
    k0_pay14 (F := Ideal) tri zro x (ix2 r q) = k0_pay13 (F := Ideal) tri x (ix2 r q) := by
  pointwise [k0_pay14, k0_pay12]

/-- What the first block carries on: its last running sum. -/
theorem pay15_apply (x : Vec Ideal S256x512 .f32) (q : Fin 512) :
    k0_pay15 (F := Ideal) tri zro x (ix2 0 q) = k0_pay13 (F := Ideal) tri x (ix2 255 q) := by
  pointwise [k0_pay15, k0_pay12]

/-- The second block adds what the first carries on. -/
theorem pay17_apply (x y : Vec Ideal S256x512 .f32) (r : Fin 256) (q : Fin 512) :
    k0_pay17 (F := Ideal) tri zro x y (ix2 r q) = k0_pay16 (F := Ideal) tri y (ix2 r q) + k0_pay15 (F := Ideal) tri zro x (ix2 0 q) := by
  pointwise [k0_pay17]

/-- What the second block carries on. -/
theorem pay18_apply (x y : Vec Ideal S256x512 .f32) (q : Fin 512) :
    k0_pay18 (F := Ideal) tri zro x y (ix2 0 q) = k0_pay15 (F := Ideal) tri zro x (ix2 0 q) + k0_pay16 (F := Ideal) tri y (ix2 255 q) := by
  pointwise [k0_pay18]

/-- The third block adds the carry it is given. -/
theorem pay20_apply (v : FVec Ideal S1x512 .f32) (x : Vec Ideal S256x512 .f32) (r : Fin 256) (q : Fin 512) :
    k0_pay20 (F := Ideal) tri v x (ix2 r q) = k0_pay19 (F := Ideal) tri x (ix2 r q) + v (ix2 0 q) := by
  pointwise [k0_pay20]

/-- The fourth block adds that carry and the third block's last running sum. -/
theorem pay21_apply (v : FVec Ideal S1x512 .f32) (x y : Vec Ideal S256x512 .f32) (r : Fin 256) (q : Fin 512) :
    k0_pay21 (F := Ideal) tri v x y (ix2 r q) = k0_pay13 (F := Ideal) tri y (ix2 r q) + (v (ix2 0 q) + k0_pay19 (F := Ideal) tri x (ix2 255 q)) := by
  show addf (k0_pay13 (F := Ideal) tri y) (broadcastTo S256x512 (addf v (extractStridedSlice S1x512 ![255, 0] (k0_pay19 (F := Ideal) tri x) slices_S256x512_o255_0_S1x512)) broadcasts_S1x512_S256x512) (ix2 r q) = _
  pointwise

/-- Every row of `v` gets the column sums of `g`. -/
theorem addTot_apply (g : FVec Ideal S8x512 .f32) (v : FVec Ideal S1024x512 .f32) (r : Fin 1024) (q : Fin 512) :
    addTot (F := Ideal) g v (ix2 r q) = v (ix2 r q) + ∑ d : Fin 8, g (ix2 d q) := by
  pointwise [addTot]

/-- A device's total: the sum of its 1024 rows. -/
theorem rowTot_apply (X : Fin 8 → FVec Ideal S1024x512 .f32) (d : Fin 8) (q : Fin 512) :
    rowTot X d (ix2 0 q) = ∑ i : Fin 1024, X d (ix2 i q) := by
  pointwise [rowTot, k0_pay3, k0_pay2, k0_pay1]

/-! ## Sums of columns -/

/-- Column `q` of a matrix, continued by zeros. -/
def col {n : ℕ} (A : FVec Ideal ⟨2, ![n, 512]⟩ .f32) (q : Fin 512) (k : ℕ) : EReal :=
  if h : k < n then A (ix2 ⟨k, h⟩ q) else 0

/-- Within the matrix the column holds its entries. -/
theorem col_lt {n : ℕ} (A : FVec Ideal ⟨2, ![n, 512]⟩ .f32) (q : Fin 512) {k : ℕ} (h : k < n) : col A q k = A (ix2 ⟨k, h⟩ q) := dif_pos h

/-- A sum cut in two after `a` terms. -/
theorem sum_cut (f : ℕ → EReal) {n : ℕ} (a b : ℕ) (h : n = a + b) :
    ∑ k ∈ Finset.range n, f k = (∑ k ∈ Finset.range a, f k) + ∑ k ∈ Finset.range b, f (a + k) := by
  rw [h, Finset.sum_range_add]

/-- The terms up to `r` of a sum of 256 are the sum of the first `r + 1`. -/
theorem sum_upto (f : ℕ → EReal) (r : Fin 256) : (∑ k : Fin 256, if k.val ≤ r.val then f k.val else 0) = ∑ k ∈ Finset.range (r.val + 1), f k := by
  have hr := r.isLt
  rw [Fin.sum_univ_eq_sum_range (fun k => if k ≤ r.val then f k else 0) 256, sum_cut _ (r.val + 1) (255 - r.val) (by omega),
    Finset.sum_congr rfl fun k hk => if_pos (Nat.lt_succ_iff.mp (Finset.mem_range.mp hk)),
    Finset.sum_eq_zero (s := Finset.range (255 - r.val)) fun k _ => if_neg (by omega), add_zero]

section Block
variable (X : Fin 8 → FVec Ideal S1024x512 .f32) (c : Fin 8) (q : Fin 512)

/-- Row `k` of the block from row `o` is row `o + k`. -/
theorem blkRead_apply (o : ℕ) (h) (k : Fin 256) : blkRead X c o h (ix2 k q) = col (X c) q (o + k.val) := by
  have ho : o + 256 ≤ 1024 := h 0
  have hk := k.isLt
  rw [col_lt _ _ (show o + k.val < 1024 by omega)]
  show X c _ = X c _
  refine congrArg (X c) (funext fun a => Fin.ext ?_)
  match a with
  | ⟨0, _⟩ => show o + 1 * k.val = o + k.val; omega
  | ⟨1, _⟩ => show 0 + 1 * q.val = q.val; omega

/-- The product of the triangle with 256 rows from `o`: the running sums of those rows. -/
theorem tri_rows (o : ℕ) (h) (r : Fin 256) :
    k0_pay13 (F := Ideal) tri (blkRead X c o h) (ix2 r q) = ∑ k ∈ Finset.range (r.val + 1), col (X c) q (o + k) := by
  rw [pay13_apply, ← sum_upto (fun k => col (X c) q (o + k))]
  exact Finset.sum_congr rfl fun k _ => by rw [blkRead_apply]

/-- The carry after two blocks: the sum of the first 512 rows. -/
theorem carry2_apply : carry2 X c (ix2 0 q) = ∑ k ∈ Finset.range 512, col (X c) q k := by
  unfold carry2
  rw [pay18_apply, pay15_apply, show k0_pay16 (F := Ideal) tri (x1 X c) = k0_pay13 (F := Ideal) tri (x1 X c) from rfl, tri_rows, tri_rows]
  rw [sum_cut _ (n := 512) 256 256 rfl]
  simp only [Nat.zero_add]
  rfl

/-- Row `r` of the `n`-th block of the scan is the sum of the device's own rows up to it. -/
theorem blkPay_apply (n : Fin 4) (r : Fin 256) :
    blkPay X c n (ix2 r q) = ∑ k ∈ Finset.range (256 * n.val + (r.val + 1)), col (X c) q k := by
  rw [sum_cut _ (256 * n.val) (r.val + 1) rfl]
  match n with
  | 0 =>
    show k0_pay14 (F := Ideal) tri zro (x0 X c) (ix2 r q) = _
    rw [pay14_apply, tri_rows]
    simp
  | 1 =>
    show k0_pay17 (F := Ideal) tri zro (x0 X c) (x1 X c) (ix2 r q) = _
    rw [pay17_apply, pay15_apply, show k0_pay16 (F := Ideal) tri (x1 X c) = k0_pay13 (F := Ideal) tri (x1 X c) from rfl, tri_rows, tri_rows, add_comm]
    simp
  | 2 =>
    show k0_pay20 (F := Ideal) tri (carry2 X c) (x2 X c) (ix2 r q) = _
    rw [pay20_apply, carry2_apply, show k0_pay19 (F := Ideal) tri (x2 X c) = k0_pay13 (F := Ideal) tri (x2 X c) from rfl, tri_rows, add_comm]
    rfl
  | 3 =>
    show k0_pay21 (F := Ideal) tri (carry2 X c) (x2 X c) (x3 X c) (ix2 r q) = _
    rw [pay21_apply, carry2_apply, show k0_pay19 (F := Ideal) tri (x2 X c) = k0_pay13 (F := Ideal) tri (x2 X c) from rfl, tri_rows, tri_rows, add_comm]
    rw [sum_cut _ (n := 256 * (3 : Fin 4).val) 512 256 rfl]
    rfl

/-- The scan of a device's own rows: running sums. -/
theorem scan_apply (r : Fin 1024) : scan X c (ix2 r q) = ∑ k ∈ Finset.range (r.val + 1), col (X c) q k := by
  have hr := r.isLt
  unfold scan
  refine (blkPay_apply X c q ⟨r.val / 256, by omega⟩ ⟨r.val % 256, by omega⟩ |> Eq.trans (congrArg _ (eq_ix2 _))).trans ?_
  refine congrArg (fun n => ∑ k ∈ Finset.range n, col (X c) q k) ?_
  show 256 * (r.val / 256) + (r.val % 256 + 1) = r.val + 1
  omega

/-- A row of the totals: the sums of a device's columns. -/
theorem tot_apply (d : Fin 8) : (tot X : FVec Ideal S8x512 .f32) (ix2 d q) = (∑ k ∈ Finset.range 1024, col (X d) q k : EReal) := by
  unfold tot
  refine ((congrArg _ (eq_ix2 _)).trans (rowTot_apply X d q)).trans ?_
  rw [← Fin.sum_univ_eq_sum_range]
  exact Finset.sum_congr (M := EReal) rfl fun k _ => (col_lt (X d) q k.isLt).symm

end Block

/-! ## The blocks of one array -/

/-- Sums of the first `c` runs of 1024 terms, put end to end. -/
theorem sum_runs (g : ℕ → EReal) (c : ℕ) : (∑ d ∈ Finset.range c, ∑ k ∈ Finset.range 1024, g (1024 * d + k)) = ∑ k ∈ Finset.range (1024 * c), g k := by
  induction c with
  | zero => rfl
  | succ c ih => rw [Finset.sum_range_succ, ih, Nat.mul_succ, Finset.sum_range_add]

/-- Device `c`'s result at row `r`, where the devices hold the blocks of `A`: the sum of the rows of `A` up to that row. -/
theorem outAt_apply (X : Fin 8 → FVec Ideal S1024x512 .f32) (A : FVec Ideal ⟨2, ![8192, 512]⟩ .f32)
    (hX : ∀ (d : Fin 8) (q : Fin 512) (k : ℕ), k < 1024 → col (X d) q k = col A q (1024 * d.val + k)) (c : Fin 8) (r : Fin 1024) (q : Fin 512) :
    outAt X c (ix2 r q) = ∑ k ∈ Finset.range (1024 * c.val + (r.val + 1)), col A q k := by
  have hr := r.isLt
  have hc := c.isLt
  unfold outAt
  rw [pay22_eq, addTot_apply, scan_apply, sum_cut _ (1024 * c.val) (r.val + 1) rfl, add_comm]
  congr 1
  · rw [← sum_runs]
    have h : ∀ d : Fin 8, masked (F := Ideal) c (tot X) (ix2 d q)
        = if d.val < c.val then ∑ k ∈ Finset.range 1024, col A q (1024 * d.val + k) else 0 := fun d => by
      rw [masked_apply, tot_apply, show FloatOps.ofBits (F := Ideal) .f32 0x00000000#32 = (0 : EReal) from zro_eq, Finset.sum_congr rfl fun k hk => hX d q k (Finset.mem_range.mp hk)]
      rfl
    rw [Finset.sum_congr rfl fun d _ => h d,
      Fin.sum_univ_eq_sum_range (fun d => if d < c.val then ∑ k ∈ Finset.range 1024, col A q (1024 * d + k) else 0) 8,
      sum_cut _ c.val (8 - c.val) (by omega),
      Finset.sum_congr rfl fun d hd => if_pos (Finset.mem_range.mp hd),
      Finset.sum_eq_zero (s := Finset.range (8 - c.val)) fun d _ => if_neg (by omega), add_zero]
  · exact Finset.sum_congr rfl fun k hk => hX c q k (by have := Finset.mem_range.mp hk; omega)

/-! ## The reference over the extended reals -/

/-- Adding the terms of a list's numbering one after another adds their sum. -/
theorem sum_fold {n : Nat} (f : Fin n → EReal) (v : EReal) : (List.finRange n).foldl (fun r k => r + f k) v = v + ∑ k, f k := by
  rw [← List.foldl_map (f := f) (g := fun r x => r + x), Fin.sum_univ_def]
  generalize (List.finRange n).map f = l
  induction l generalizing v with
  | nil => simp
  | cons a l ih => rw [List.foldl_cons, ih, List.sum_cons, add_assoc]

/-- A window's fold is the sum over the window: each position holds the operand's element, or the initial value off it. -/
theorem fold_window {s t u : Shape} (window strides lo hi : Fin s.rank → ℕ) (x : s.Idx → EReal) (init : u.Idx → EReal)
    (h : s.ReduceWindows window strides lo hi t) (hu : 0 < u.numel) (j : t.Idx) :
    Host.reduceWindow (fun a b : EReal => a + b) window strides lo hi x init h hu j = init (Shape.Idx.first hu)
      + ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨_, (hin a).2⟩) else init (Shape.Idx.first hu) := by
  unfold Host.reduceWindow
  refine (sum_fold _ _).trans (congrArg _ (Eq.trans (Finset.sum_congr rfl fun n _ => dite_congr rfl (fun _ => rfl) fun _ => rfl) ?_))
  exact Equiv.sum_comp (Shape.rowMajor ⟨s.rank, window⟩).symm (fun w : (⟨s.rank, window⟩ : Shape).Idx =>
    if hin : ∀ a, lo a ≤ (j (a.cast h.1.symm)).val * strides a + (w a).val ∧ (j (a.cast h.1.symm)).val * strides a + (w a).val - lo a < s.size a
      then x (fun a => ⟨_, (hin a).2⟩) else init (Shape.Idx.first hu))

/-- The window of the whole height ending at row `j` holds the rows up to `j`. -/
theorem sum_window (g : ℕ → EReal) {j : ℕ} (hj : j < 8192) :
    (∑ w : Fin 8192, if 8191 ≤ j + w.val then g (j + w.val - 8191) else 0) = ∑ k ∈ Finset.range (j + 1), g k := by
  rw [Fin.sum_univ_eq_sum_range (fun w => if 8191 ≤ j + w then g (j + w - 8191) else 0) 8192,
    sum_cut _ (8191 - j) (j + 1) (by omega),
    Finset.sum_eq_zero fun w hw => if_neg (by have := Finset.mem_range.mp hw; omega), zero_add]
  refine Finset.sum_congr rfl fun k _ => ?_
  rw [if_pos (by omega), show j + (8191 - j + k) - 8191 = k by omega]

/-- What the reference computes of the whole array `A`. -/
abbrev refOut (A : FVec Ideal Cert.ReferenceIdeal.S8192x512 .f32) : FVec Ideal Cert.ReferenceIdeal.S8192x512 .f32 :=
  Host.reduceWindowAdd ![8192, 1] ![1, 1] ![8191, 0] ![0, 0] A
    (broadcastInDim Cert.ReferenceIdeal.S_ ![] Cert.ReferenceIdeal.Gen.bcast_S_S_ (constant Cert.ReferenceIdeal.S_ .f32 0x00000000#32))
    Cert.ReferenceIdeal.Gen.reduceWindows_S8192x512_S8192x512_w8192s1p8191_0_w1s1p0_0 Cert.ReferenceIdeal.Gen.h_S_

/-- The reference at row `j`: the sum of the rows up to it. -/
theorem refOut_apply (A : FVec Ideal Cert.ReferenceIdeal.S8192x512 .f32) (j : Fin 8192) (q : Fin 512) :
    refOut A (ix2 j q) = ∑ k ∈ Finset.range (j.val + 1), col A q k := by
  have hj := j.isLt
  have hq := q.isLt
  rw [← sum_window _ hj]
  unfold refOut Host.reduceWindowAdd
  rw [Ideal.hostReduceWindowAdd_def]
  unfold Ideal.hostReduceWindowAdd
  refine (fold_window (s := Cert.ReferenceIdeal.S8192x512) _ _ _ _ _ _ _ _ _).trans ?_
  generalize hv : (broadcastInDim Cert.ReferenceIdeal.S_ ![] Cert.ReferenceIdeal.Gen.bcast_S_S_ (constant (F := Ideal) Cert.ReferenceIdeal.S_ .f32 0x00000000#32)) (Shape.Idx.first Cert.ReferenceIdeal.Gen.h_S_) = v
  have hv0 : v = (0 : EReal) := hv.symm.trans zro_eq
  subst hv0
  rw [zero_add]
  refine (sum_idx2 (n0 := 8192) (n1 := 1) _).trans (Finset.sum_congr rfl fun w _ => ?_)
  rw [Fin.sum_univ_one]
  have hw := w.isLt
  by_cases hle : 8191 ≤ j.val + w.val
  · rw [if_pos hle, col_lt A q (show j.val + w.val - 8191 < 8192 by omega)]
    refine (dif_pos (fun a => ?_)).trans (congrArg A (funext fun a => Fin.ext ?_))
    · match a with
      | ⟨0, _⟩ => show 8191 ≤ j.val * 1 + w.val ∧ j.val * 1 + w.val - 8191 < 8192; omega
      | ⟨1, _⟩ => show 0 ≤ q.val * 1 + 0 ∧ q.val * 1 + 0 - 0 < 512; omega
    · match a with
      | ⟨0, _⟩ => show j.val * 1 + w.val - 8191 = j.val + w.val - 8191; omega
      | ⟨1, _⟩ => show q.val * 1 + 0 - 0 = q.val; omega
  · rw [if_neg hle]
    refine dif_neg fun hin => hle ?_
    have h0 : 8191 ≤ j.val * 1 + w.val := (hin 0).1
    omega

/-- Device `c`'s result is block `c` of the reference's. -/
theorem outAt_eq (X : Fin 8 → FVec Ideal S1024x512 .f32) (A : FVec Ideal ⟨2, ![8192, 512]⟩ .f32)
    (hX : ∀ c : Fin 8, X c = Layout.block ⟨2, ![1024, 512]⟩ ⟨2, ![8192, 512]⟩ 0 8 c A) (c : Fin 8) :
    outAt X c = Layout.block ⟨2, ![1024, 512]⟩ ⟨2, ![8192, 512]⟩ 0 8 c (refOut A) := by
  have hrow (B : FVec Ideal ⟨2, ![8192, 512]⟩ .f32) (d : Fin 8) (r : Fin 1024) (q : Fin 512) :
      Layout.block ⟨2, ![1024, 512]⟩ ⟨2, ![8192, 512]⟩ 0 8 d B (by decide) (ix2 r q) = B (ix2 ⟨1024 * d.val + r.val, by omega⟩ q) := by
    rw [Layout.block_apply]
    refine congrArg B (funext fun a => Fin.ext ?_)
    rw [Layout.Tiles.idx_val]
    match a with
    | ⟨0, _⟩ => show d.val * 1024 + r.val = 1024 * d.val + r.val; omega
    | ⟨1, _⟩ => rfl
  funext i
  obtain ⟨r, q, rfl⟩ : ∃ (r : Fin 1024) (q : Fin 512), i = ix2 r q := ⟨i 0, i 1, eq_ix2 i⟩
  refine (outAt_apply X A (fun d q k hk => ?_) c r q).trans ?_
  · have hd := d.isLt
    rw [col_lt _ _ hk, col_lt _ _ (by omega), hX d, hrow]
  · exact ((hrow (refOut A) c r q).trans (refOut_apply A _ q)).symm

end Cert.KernelIdeal.Scan
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Launch
public import proofs.«01_k».proof.Proof.Ideal.Value
public import proofs.«01_k».proof.Proof.Bits.Launch
public import Idealize.ShloMosaic.Adequacy
public import Idealize.ShloMosaic.Init

@[expose] public section

noncomputable section

namespace Cert.Proof

open Idealize.ShloMosaic Idealize.SL.Sem

/-- The kernel runs to its end, leaves its argument as it was and every counter at zero. -/
theorem frame_kernel : Cert.quiescent_Kernel := fun m g _ => Cert.Kernel.Scan.run_frame (F := Bits) m g

/-- The same of the kernel over the extended reals. -/
theorem frame_ideal : Cert.quiescent_KernelIdeal := fun m g _ => Cert.KernelIdeal.Scan.run_frame (F := Ideal) m g

/-- The reference's operations run on the host and touch no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On every device the kernel's result is that device's block of the reference's running sums. -/
theorem algebraic : Cert.algebraic_KernelIdeal_ReferenceIdeal := by
  intro m g m' g' _ hagree
  refine ⟨Cert.KernelIdeal.Scan.refOut (m' (((0 : Dev Cert.ReferenceIdeal.nD).tc : Thread _ Cert.ReferenceIdeal.τ).loc Cert.ReferenceIdeal.main_arg0)), ?_, ?_⟩
  · refine (θ_run _ _ _).mono
      (fun _ h c => ⟨(h.1 c (1 : Fin 2)).trans ?_, (h.1 c (0 : Fin 2)).trans (Cert.KernelIdeal.Scan.final_arg m g c)⟩)
      (Cert.KernelIdeal.Scan.run_main (F := Ideal) m g)
    -- each window's one block is its whole array
    have hz1 : (fun a => (Cert.KernelIdeal.win0_1.index (0 : Fin 1)) a * Cert.KernelIdeal.main_v1.ty.shape.size a) = fun _ => 0 :=
      funext fun a => by fin_cases a <;> decide
    have hz0 : (fun a => (Cert.KernelIdeal.win0_0.index (0 : Fin 1)) a * Cert.KernelIdeal.main_arg0.ty.shape.size a) = fun _ => 0 :=
      funext fun a => by fin_cases a <;> decide
    have hr1 := fun f => Memref.read_access_unit_zero (Elt Ideal) Cert.KernelIdeal.main_v1 hz1 (fun a => by fin_cases a <;> decide) f
    have hr0 := fun f => Memref.read_access_unit_zero (Elt Ideal) Cert.KernelIdeal.main_arg0 hz0 (fun a => by fin_cases a <;> decide) f
    exact ((hr1 _).symm.trans (Cert.KernelIdeal.Scan.final_res m g c)).trans
      (Cert.KernelIdeal.Scan.outAt_eq _ _ (fun d => (hr0 _).trans (hagree d)) c)
  · exact (θ_run Cert.ReferenceIdeal.defs _ _).mono (fun _ h => h 0) (Cert.ReferenceIdeal.Value.run (F := Ideal) m' g')

/-- The five claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
